-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_KernelIdeal_ids_sorted [hPre_ids_sorted : Cert.Pre_ids_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_ids_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_sorted [hPre_ids_sorted : Cert.Pre_ids_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_ids_sorted [hKernelIdeal : Cert.KernelIdeal.Facts] [hPre_ids_sorted : Cert.Pre_ids_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_sorted m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_ids_sorted [hReferenceIdeal : Cert.ReferenceIdeal.Facts] [hPre_ids_sorted : Cert.Pre_ids_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_ids_sorted [hKernelIdeal : Cert.KernelIdeal.Facts] [hReferenceIdeal : Cert.ReferenceIdeal.Facts] [hPre_ids_sorted : Cert.Pre_ids_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_sorted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_ids_sorted : Cert.Pre_ids_sorted.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_ids_sorted (hKernelIdeal := hKernelIdeal) (hPre_ids_sorted := hPre_ids_sorted)
    ∧ quiescent_ReferenceIdeal (hReferenceIdeal := hReferenceIdeal)
    ∧ quiescent_ReferenceIdeal_pre_ids_sorted (hReferenceIdeal := hReferenceIdeal) (hPre_ids_sorted := hPre_ids_sorted)
    ∧ preserves_Kernel_KernelIdeal
    ∧ algebraic_KernelIdeal_ReferenceIdeal_pre_ids_sorted (hKernelIdeal := hKernelIdeal) (hReferenceIdeal := hReferenceIdeal) (hPre_ids_sorted := hPre_ids_sorted)
-- ==== Pre_ids_in_range.lean ====
abbrev S100000x128 : Shape := ⟨2, ![100000, 128]⟩
abbrev S100000x16x3 : Shape := ⟨3, ![100000, 16, 3]⟩
abbrev S100000 : Shape := ⟨1, ![100000]⟩
abbrev S176x128 : Shape := ⟨2, ![176, 128]⟩
abbrev S128 : Shape := ⟨1, ![128]⟩
abbrev S128x1 : Shape := ⟨2, ![128, 1]⟩
abbrev S1 : Shape := ⟨1, ![1]⟩
abbrev S128x128 : Shape := ⟨2, ![128, 128]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x128 .f32) (main_arg1 : FVec F S100000x16x3 .f32) (main_arg2 : IVec S100000 32) (main_arg3 : FVec F S176x128 .f32) (main_arg4 : FVec F S128 .f32) (main_arg5 : FVec F S128x1 .f32) (main_arg6 : FVec F S1 .f32) (main_arg7 : FVec F S176x128 .f32) (main_arg8 : FVec F S128 .f32) (main_arg9 : FVec F S128x128 .f32) (main_arg10 : FVec F S128 .f32) : IVec S_ 1 :=
  let main_c : IVec S_ 32 := constantI S_ 32 0#32
  let main_v0 : IVec S100000 32 := broadcastInDim S100000 ![] bcast_S_S100000 main_c
  let main_v1 : IVec S100000 1 := cmpi .sge main_arg2 main_v0
  let main_c_0 : IVec S_ 32 := constantI S_ 32 512#32
  let main_v2 : IVec S100000 32 := broadcastInDim S100000 ![] bcast_S_S100000 main_c_0
  let main_v3 : IVec S100000 1 := cmpi .slt main_arg2 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  main_v5
-- ==== Pre_ids_sorted.lean ====
abbrev S100000x128 : Shape := ⟨2, ![100000, 128]⟩
abbrev S100000x16x3 : Shape := ⟨3, ![100000, 16, 3]⟩
abbrev S100000 : Shape := ⟨1, ![100000]⟩
abbrev S176x128 : Shape := ⟨2, ![176, 128]⟩
abbrev S128 : Shape := ⟨1, ![128]⟩
abbrev S128x1 : Shape := ⟨2, ![128, 1]⟩
abbrev S1 : Shape := ⟨1, ![1]⟩
abbrev S128x128 : Shape := ⟨2, ![128, 128]⟩
abbrev S_ : Shape := ⟨0, ![]⟩
abbrev S99999 : Shape := ⟨1, ![99999]⟩

class Facts : Prop where
  bcast_S_S100000 : S_.BroadcastsInDim S100000 (![] : Fin 0 → Fin S100000.rank)
  reducesTo_S100000_S_d0 : S100000.ReducesTo [0] S_
  h_S_ : 0 < S_.numel
  slices_S100000_S99999_0 : S100000.Slices ![0] S99999
  slices_S100000_S99999_1 : S100000.Slices ![1] S99999
  reducesTo_S99999_S_d0 : S99999.ReducesTo [0] S_

variable [Facts]

def fn {F : FTy → Type} [FloatOps F] (main_arg0 : FVec F S100000x128 .f32) (main_arg1 : FVec F S100000x16x3 .f32) (main_arg2 : IVec S100000 32) (main_arg3 : FVec F S176x128 .f32) (main_arg4 : FVec F S128 .f32) (main_arg5 : FVec F S128x1 .f32) (main_arg6 : FVec F S1 .f32) (main_arg7 : FVec F S176x128 .f32) (main_arg8 : FVec F S128 .f32) (main_arg9 : FVec F S128x128 .f32) (main_arg10 : FVec F S128 .f32) : IVec S_ 1 :=
  let main_c : IVec S_ 32 := constantI S_ 32 0#32
  let main_v0 : IVec S100000 32 := broadcastInDim S100000 ![] bcast_S_S100000 main_c
  let main_v1 : IVec S100000 1 := cmpi .sge main_arg2 main_v0
  let main_c_0 : IVec S_ 32 := constantI S_ 32 512#32
  let main_v2 : IVec S100000 32 := broadcastInDim S100000 ![] bcast_S_S100000 main_c_0
  let main_v3 : IVec S100000 1 := cmpi .slt main_arg2 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  let main_v6 : IVec S99999 32 := (extractStridedSlice S99999 ![0] · slices_S100000_S99999_0) main_arg2
  let main_v7 : IVec S99999 32 := (extractStridedSlice S99999 ![1] · slices_S100000_S99999_1) main_arg2
  let main_v8 : IVec S99999 1 := cmpi .sle main_v6 main_v7
  let main_c_2 : IVec S_ 1 := constantI S_ 1 1#1
  let main_v9 : IVec S_ 1 := (fun x v => Host.reduce IntOp.andi x v reducesTo_S99999_S_d0 h_S_) main_v8 main_c_2
  let main_v10 : IVec S_ 1 := andi main_v5 main_v9
  main_v10
-- ==== Kernel.lean ====
abbrev S100000x128 : Shape := ⟨2, ![100000, 128]⟩
abbrev S100000x16x3 : Shape := ⟨3, ![100000, 16, 3]⟩
abbrev S100000 : Shape := ⟨1, ![100000]⟩
abbrev S176x128 : Shape := ⟨2, ![176, 128]⟩
abbrev S128 : Shape := ⟨1, ![128]⟩
abbrev S128x1 : Shape := ⟨2, ![128, 1]⟩
abbrev S1 : Shape := ⟨1, ![1]⟩
abbrev S128x128 : Shape := ⟨2, ![128, 128]⟩
abbrev S3x16x100000 : Shape := ⟨3, ![3, 16, 100000]⟩
abbrev S48x100000 : Shape := ⟨2, ![48, 100000]⟩
abbrev S_ : Shape := ⟨0, ![]⟩
abbrev S102400 : Shape := ⟨1, ![102400]⟩
abbrev S10x1x10240 : Shape := ⟨3, ![10, 1, 10240]⟩
abbrev S48x128 : Shape := ⟨2, ![48, 128]⟩
abbrev S16x3x128 : Shape := ⟨3, ![16, 3, 128]⟩
abbrev S3x16x128 : Shape := ⟨3, ![3, 16, 128]⟩
abbrev S10 : Shape := ⟨1, ![10]⟩
abbrev S10x1 : Shape := ⟨2, ![10, 1]⟩
abbrev S1x128 : Shape := ⟨2, ![1, 128]⟩
abbrev S1x1 : Shape := ⟨2, ![1, 1]⟩
abbrev S512x128 : Shape := ⟨2, ![512, 128]⟩
abbrev S1x1x10240 : Shape := ⟨3, ![1, 1, 10240]⟩
abbrev S10240x128 : Shape := ⟨2, ![10240, 128]⟩
abbrev S48x10240 : Shape := ⟨2, ![48, 10240]⟩
abbrev S512x49 : Shape := ⟨2, ![512, 49]⟩
abbrev S10240x1 : Shape := ⟨2, ![10240, 1]⟩
abbrev S1x10240 : Shape := ⟨2, ![1, 10240]⟩
abbrev S49x10240 : Shape := ⟨2, ![49, 10240]⟩
abbrev S64x10240 : Shape := ⟨2, ![64, 10240]⟩
abbrev S64x128 : Shape := ⟨2, ![64, 128]⟩
abbrev S64x49 : Shape := ⟨2, ![64, 49]⟩
abbrev S512x10240 : Shape := ⟨2, ![512, 10240]⟩
abbrev S512x1 : Shape := ⟨2, ![512, 1]⟩
abbrev S512x48 : Shape := ⟨2, ![512, 48]⟩
abbrev S512x176 : Shape := ⟨2, ![512, 176]⟩

abbrev nBuf : Space → Nat
  | .hbm => 69
  | .vmem => 18
  | .smem => 3
  | _ => 0

abbrev bufTy : (tb : Table) → Fin (tcTables nBuf tb) → BufTy
  | .hbm, ⟨0, _⟩ => ⟨S100000x128, .f32⟩
  | .hbm, ⟨1, _⟩ => ⟨S100000x16x3, .f32⟩
  | .hbm, ⟨2, _⟩ => ⟨S100000, .i32⟩
  | .hbm, ⟨3, _⟩ => ⟨S176x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S176x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S3x16x100000, .f32⟩
  | .hbm, ⟨12, _⟩ => ⟨S48x100000, .f32⟩
  | .hbm, ⟨13, _⟩ => ⟨S_, .i32⟩
  | .hbm, ⟨14, _⟩ => ⟨S_, .i32⟩
  | .hbm, ⟨15, _⟩ => ⟨S102400, .i32⟩
  | .hbm, ⟨16, _⟩ => ⟨S10x1x10240, .i32⟩
  | .hbm, ⟨17, _⟩ => ⟨S128x128, .f32⟩
  | .hbm, ⟨18, _⟩ => ⟨S128x128, .bf16⟩
  | .hbm, ⟨19, _⟩ => ⟨S48x128, .f32⟩
  | .hbm, ⟨20, _⟩ => ⟨S16x3x128, .f32⟩
  | .hbm, ⟨21, _⟩ => ⟨S3x16x128, .f32⟩
  | .hbm, ⟨22, _⟩ => ⟨S48x128, .f32⟩
  | .hbm, ⟨23, _⟩ => ⟨S48x128, .bf16⟩
  | .hbm, ⟨24, _⟩ => ⟨S128x1, .bf16⟩
  | .hbm, ⟨25, _⟩ => ⟨S128x128, .f32⟩
  | .hbm, ⟨26, _⟩ => ⟨S48x128, .f32⟩
  | .hbm, ⟨27, _⟩ => ⟨S16x3x128, .f32⟩
  | .hbm, ⟨28, _⟩ => ⟨S3x16x128, .f32⟩
  | .hbm, ⟨29, _⟩ => ⟨S48x128, .f32⟩
  | .hbm, ⟨30, _⟩ => ⟨S176x128, .f32⟩
  | .hbm, ⟨31, _⟩ => ⟨S_, .i32⟩
  | .hbm, ⟨32, _⟩ => ⟨S1, .i32⟩
  | .hbm, ⟨33, _⟩ => ⟨S10, .i32⟩
  | .hbm, ⟨34, _⟩ => ⟨S_, .i32⟩
  | .hbm, ⟨35, _⟩ => ⟨S10, .i32⟩
  | .hbm, ⟨36, _⟩ => ⟨S10, .i32⟩
  | .hbm, ⟨37, _⟩ => ⟨S_, .i32⟩
  | .hbm, ⟨38, _⟩ => ⟨S10, .i32⟩
  | .hbm, ⟨39, _⟩ => ⟨S10, .i32⟩
  | .hbm, ⟨40, _⟩ => ⟨S_, .i32⟩
  | .hbm, ⟨41, _⟩ => ⟨S10, .i32⟩
  | .hbm, ⟨42, _⟩ => ⟨S10, .i32⟩
  | .hbm, ⟨43, _⟩ => ⟨S_, .i32⟩
  | .hbm, ⟨44, _⟩ => ⟨S10, .i32⟩
  | .hbm, ⟨45, _⟩ => ⟨S10, .i32⟩
  | .hbm, ⟨46, _⟩ => ⟨S_, .i32⟩
  | .hbm, ⟨47, _⟩ => ⟨S10, .i32⟩
  | .hbm, ⟨48, _⟩ => ⟨S10, .i1⟩
  | .hbm, ⟨49, _⟩ => ⟨S_, .i32⟩
  | .hbm, ⟨50, _⟩ => ⟨S10, .i32⟩
  | .hbm, ⟨51, _⟩ => ⟨S10, .i32⟩
  | .hbm, ⟨52, _⟩ => ⟨S10, .i32⟩
  | .hbm, ⟨53, _⟩ => ⟨S10x1, .i32⟩
  | .hbm, ⟨54, _⟩ => ⟨S10, .i32⟩
  | .hbm, ⟨55, _⟩ => ⟨S_, .i32⟩
  | .hbm, ⟨56, _⟩ => ⟨S10, .i32⟩
  | .hbm, ⟨57, _⟩ => ⟨S10, .i1⟩
  | .hbm, ⟨58, _⟩ => ⟨S_, .i32⟩
  | .hbm, ⟨59, _⟩ => ⟨S10, .i32⟩
  | .hbm, ⟨60, _⟩ => ⟨S10, .i32⟩
  | .hbm, ⟨61, _⟩ => ⟨S10, .i32⟩
  | .hbm, ⟨62, _⟩ => ⟨S10x1, .i32⟩
  | .hbm, ⟨63, _⟩ => ⟨S10, .i32⟩
  | .hbm, ⟨64, _⟩ => ⟨S1x128, .f32⟩
  | .hbm, ⟨65, _⟩ => ⟨S1x1, .f32⟩
  | .hbm, ⟨66, _⟩ => ⟨S1x128, .f32⟩
  | .hbm, ⟨67, _⟩ => ⟨S1x128, .f32⟩
  | .hbm, ⟨68, _⟩ => ⟨S512x128, .f32⟩
  | .local _ .vmem, ⟨0, _⟩ => ⟨S1x1x10240, .i32⟩
  | .local _ .vmem, ⟨1, _⟩ => ⟨S1x1x10240, .i32⟩
  | .local _ .vmem, ⟨2, _⟩ => ⟨S10240x128, .f32⟩
  | .local _ .vmem, ⟨3, _⟩ => ⟨S10240x128, .f32⟩
  | .local _ .vmem, ⟨4, _⟩ => ⟨S48x10240, .f32⟩
  | .local _ .vmem, ⟨5, _⟩ => ⟨S48x10240, .f32⟩
  | .local _ .vmem, ⟨6, _⟩ => ⟨S128x128, .bf16⟩
  | .local _ .vmem, ⟨7, _⟩ => ⟨S48x128, .bf16⟩
  | .local _ .vmem, ⟨8, _⟩ => ⟨S1x128, .f32⟩
  | .local _ .vmem, ⟨9, _⟩ => ⟨S128x1, .bf16⟩
  | .local _ .vmem, ⟨10, _⟩ => ⟨S1x1, .f32⟩
  | .local _ .vmem, ⟨11, _⟩ => ⟨S176x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S512x128, .f32⟩
  | .local _ .vmem, ⟨16, _⟩ => ⟨S512x128, .f32⟩
  | .local _ .vmem, ⟨17, _⟩ => ⟨S512x49, .f32⟩
  | .local _ .smem, ⟨0, _⟩ => ⟨S1, .i32⟩
  | .local _ .smem, ⟨1, _⟩ => ⟨S10, .i32⟩
  | .local _ .smem, ⟨2, _⟩ => ⟨S10, .i32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_0 : Ref sig .tc := ⟨.hbm, 31, rfl⟩
abbrev main_v18 : Ref sig .tc := ⟨.hbm, 32, rfl⟩
abbrev main_v19 : Ref sig .tc := ⟨.hbm, 33, rfl⟩
abbrev main_c_1 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_c_3 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_scratch0 : Ref sig .tc := ⟨.vmem, 16, rfl⟩
abbrev cc0_scratch1 : Ref sig .tc := ⟨.vmem, 17, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18

abbrev nD : Nat := 1
abbrev τ : Topo := Topo.v7x

variable {F : FTy → Type} [FloatOps F]

abbrev grid0 : Pipeline.Grid := ⟨1, ![10], ![false]⟩

def k0_off1 (i : grid0.Coords) : Fin 1 → Nat :=
  let arg0 : BitVec 32 := BitVec.ofNat 32 (i 0).val
  let v64 : Index := Scalar.indexCast arg0
  ![v64.toNat]
def k0_off2 (v65 : BitVec 32) : Fin 2 → Nat :=
  let c448_i32 : BitVec 32 := 448#32
  let v68 : BitVec 32 := Scalar.minsi v65 c448_i32
  let v94 : Index := Scalar.indexCast v68
  let c0_34 : Index := 0#32
  ![v94.toNat, 0]
def k0_cond2 (v65 : BitVec 32) (v67 : BitVec 32) : BitVec 1 :=
  let c448_i32 : BitVec 32 := 448#32
  let v68 : BitVec 32 := Scalar.minsi v65 c448_i32
  let v69 : BitVec 32 := Scalar.subi v67 v68
  let c64_i32 : BitVec 32 := 64#32
  let v70 : BitVec 1 := Scalar.cmpi .slt v69 c64_i32
  let v74 : BitVec 32 := Scalar.extui v70
  let c0_i32_28 : BitVec 32 := 0#32
  let v75 : BitVec 1 := Scalar.cmpi .ne v74 c0_i32_28
  v75

def k0_off3 (v65 : BitVec 32) : Fin 2 → Nat :=
  let c448_i32 : BitVec 32 := 448#32
  let v68 : BitVec 32 := Scalar.minsi v65 c448_i32
  let v101 : Index := Scalar.indexCast v68
  let c0_36 : Index := 0#32
  ![v101.toNat, 0]

def k0_chk1 (v65 : BitVec 32) (v67 : BitVec 32) : Prop :=
  (∀ (k0_h2 : k0_cond2 v65 v67 = 1#1), ∀ a, (k0_off2 v65) a + S64x128.size a ≤ S512x128.size a) ∧
  (∀ (k0_h2 : k0_cond2 v65 v67 = 1#1), ∀ a, (k0_off3 v65) a + S64x49.size a ≤ S512x49.size a)
theorem k0_off2_inb : ∀ (v65 : BitVec 32) (v67 : BitVec 32) (k0_hw1 : k0_chk1 v65 v67), ∀ (k0_h2 : k0_cond2 v65 v67 = 1#1), ∀ a, (k0_off2 v65) a + S64x128.size a ≤ S512x128.size a := fun v65 v67 k0_hw1 k0_h2 => k0_hw1.1 k0_h2
theorem k0_off3_inb : ∀ (v65 : BitVec 32) (v67 : BitVec 32) (k0_hw1 : k0_chk1 v65 v67), ∀ (k0_h2 : k0_cond2 v65 v67 = 1#1), ∀ a, (k0_off3 v65) a + S64x49.size a ≤ S512x49.size a := fun v65 v67 k0_hw1 k0_h2 => k0_hw1.2 k0_h2

def k0_cond4 (i : grid0.Coords) : BitVec 1 :=
  let arg0 : BitVec 32 := BitVec.ofNat 32 (i 0).val
  let c9_i32 : BitVec 32 := 9#32
  let v79 : BitVec 1 := Scalar.cmpi .eq arg0 c9_i32
  let v80 : BitVec 32 := Scalar.extui v79
  let c0_i32_30 : BitVec 32 := 0#32
  let v81 : BitVec 1 := Scalar.cmpi .ne v80 c0_i32_30
  v81

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S10 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S10 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x10240 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10240x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S48x10240 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S48x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S176x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S100000x128 : Shape := ⟨2, ![100000, 128]⟩
abbrev S100000x16x3 : Shape := ⟨3, ![100000, 16, 3]⟩
abbrev S100000 : Shape := ⟨1, ![100000]⟩
abbrev S176x128 : Shape := ⟨2, ![176, 128]⟩
abbrev S128 : Shape := ⟨1, ![128]⟩
abbrev S128x1 : Shape := ⟨2, ![128, 1]⟩
abbrev S1 : Shape := ⟨1, ![1]⟩
abbrev S128x128 : Shape := ⟨2, ![128, 128]⟩
abbrev S100000x48 : Shape := ⟨2, ![100000, 48]⟩
abbrev S100000x176 : Shape := ⟨2, ![100000, 176]⟩
abbrev S1x128 : Shape := ⟨2, ![1, 128]⟩
abbrev S_ : Shape := ⟨0, ![]⟩
abbrev S100000x1 : Shape := ⟨2, ![100000, 1]⟩
abbrev S1x1 : Shape := ⟨2, ![1, 1]⟩
abbrev S512 : Shape := ⟨1, ![512]⟩
abbrev S512x176 : Shape := ⟨2, ![512, 176]⟩
abbrev S512x128 : Shape := ⟨2, ![512, 128]⟩

abbrev nBuf : Space → Nat
  | .hbm => 71
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x16x3, .f32⟩
  | .hbm, ⟨2, _⟩ => ⟨S100000, .i32⟩
  | .hbm, ⟨3, _⟩ => ⟨S176x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S176x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S100000x48, .f32⟩
  | .hbm, ⟨12, _⟩ => ⟨S100000x176, .f32⟩
  | .hbm, ⟨13, _⟩ => ⟨S100000x128, .f32⟩
  | .hbm, ⟨14, _⟩ => ⟨S1x128, .f32⟩
  | .hbm, ⟨15, _⟩ => ⟨S100000x128, .f32⟩
  | .hbm, ⟨16, _⟩ => ⟨S100000x128, .f32⟩
  | .hbm, ⟨17, _⟩ => ⟨S_, .f32⟩
  | .hbm, ⟨18, _⟩ => ⟨S_, .f32⟩
  | .hbm, ⟨19, _⟩ => ⟨S100000x128, .f32⟩
  | .hbm, ⟨20, _⟩ => ⟨S100000x128, .i1⟩
  | .hbm, ⟨21, _⟩ => ⟨S_, .f32⟩
  | .hbm, ⟨22, _⟩ => ⟨S100000x128, .f32⟩
  | .hbm, ⟨23, _⟩ => ⟨S100000x128, .f32⟩
  | .hbm, ⟨24, _⟩ => ⟨S100000x128, .f32⟩
  | .hbm, ⟨25, _⟩ => ⟨S100000x1, .f32⟩
  | .hbm, ⟨26, _⟩ => ⟨S1x1, .f32⟩
  | .hbm, ⟨27, _⟩ => ⟨S100000x1, .f32⟩
  | .hbm, ⟨28, _⟩ => ⟨S100000x1, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S512, .f32⟩
  | .hbm, ⟨33, _⟩ => ⟨S100000x1, .i32⟩
  | .hbm, ⟨34, _⟩ => ⟨S512, .f32⟩
  | .hbm, ⟨35, _⟩ => ⟨S_, .i32⟩
  | .hbm, ⟨36, _⟩ => ⟨S100000, .i32⟩
  | .hbm, ⟨37, _⟩ => ⟨S100000, .i1⟩
  | .hbm, ⟨38, _⟩ => ⟨S_, .i32⟩
  | .hbm, ⟨39, _⟩ => ⟨S100000, .i32⟩
  | .hbm, ⟨40, _⟩ => ⟨S100000, .i32⟩
  | .hbm, ⟨41, _⟩ => ⟨S100000, .i32⟩
  | .hbm, ⟨42, _⟩ => ⟨S100000x1, .i32⟩
  | .hbm, ⟨43, _⟩ => ⟨S100000, .f32⟩
  | .hbm, ⟨44, _⟩ => ⟨S_, .f32⟩
  | .hbm, ⟨45, _⟩ => ⟨S100000, .f32⟩
  | .hbm, ⟨46, _⟩ => ⟨S100000, .f32⟩
  | .hbm, ⟨47, _⟩ => ⟨S100000, .f32⟩
  | .hbm, ⟨48, _⟩ => ⟨S100000x1, .f32⟩
  | .hbm, ⟨49, _⟩ => ⟨S100000x176, .f32⟩
  | .hbm, ⟨50, _⟩ => ⟨S100000x176, .f32⟩
  | .hbm, ⟨51, _⟩ => ⟨S_, .f32⟩
  | .hbm, ⟨52, _⟩ => ⟨S512x176, .f32⟩
  | .hbm, ⟨53, _⟩ => ⟨S100000x1, .i32⟩
  | .hbm, ⟨54, _⟩ => ⟨S512x176, .f32⟩
  | .hbm, ⟨55, _⟩ => ⟨S512x128, .f32⟩
  | .hbm, ⟨56, _⟩ => ⟨S1x128, .f32⟩
  | .hbm, ⟨57, _⟩ => ⟨S512x128, .f32⟩
  | .hbm, ⟨58, _⟩ => ⟨S512x128, .f32⟩
  | .hbm, ⟨59, _⟩ => ⟨S_, .f32⟩
  | .hbm, ⟨60, _⟩ => ⟨S_, .f32⟩
  | .hbm, ⟨61, _⟩ => ⟨S512x128, .f32⟩
  | .hbm, ⟨62, _⟩ => ⟨S512x128, .i1⟩
  | .hbm, ⟨63, _⟩ => ⟨S_, .f32⟩
  | .hbm, ⟨64, _⟩ => ⟨S512x128, .f32⟩
  | .hbm, ⟨65, _⟩ => ⟨S512x128, .f32⟩
  | .hbm, ⟨66, _⟩ => ⟨S512x128, .f32⟩
  | .hbm, ⟨67, _⟩ => ⟨S512x128, .f32⟩
  | .hbm, ⟨68, _⟩ => ⟨S1x128, .f32⟩
  | .hbm, ⟨69, _⟩ => ⟨S512x128, .f32⟩
  | .hbm, ⟨70, _⟩ => ⟨S512x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_1 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_2 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_4 : Ref sig .tc := ⟨.hbm, 59, rfl⟩
abbrev main_call1_cst : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩

abbrev nD : Nat := 1
abbrev τ : Topo := Topo.v7x

variable {F : FTy → Type} [FloatOps F]
-- ==== Proof.Ids.lean ====
/-
  What the first precondition says of the group ids: every id lies from 0 to 511.
-/
module

public import proofs.«01_k».proof.Pre_ids_in_range
public import Idealize.ShloMosaic.Lib.ReduceAll
public import Idealize.ShloMosaic.Lib.Affine
public import Idealize.ShloMosaic.Lib.Routing.Ops

@[expose] public section

set_option maxRecDepth 16384

noncomputable section

namespace Cert.Proof

open Idealize.ShloMosaic
open Idealize.ShloMosaic.ValueIdx

/-- A shape without axes has one index. -/
instance : Subsingleton (⟨0, ![]⟩ : Shape).Idx := ⟨fun _ _ => funext fun a => a.elim0⟩

/-- A word that, read signed, is at least 0 and below 512 is below 512 read unsigned. -/
theorem word_lt (x : BitVec 32) (h0 : IntOp.cmpi .sge x 0#32 = 1#1) (h1 : IntOp.cmpi .slt x 512#32 = 1#1) : x.toNat < 512 := by
  have a := IntOp.cmpi_sge.mp h0
  have b := IntOp.cmpi_slt.mp h1
  have e : (512#32 : BitVec 32).toInt = 512 := by decide
  have e0 : (0#32 : BitVec 32).toInt = 0 := by decide
  rw [e] at b; rw [e0] at a
  have hx := x.isLt
  rw [BitVec.toInt_eq_toNat_cond] at a b
  split at a <;> omega

/-- Signed order of two words below 512 is their unsigned order. -/
theorem word_le (x y : BitVec 32) (hx : x.toNat < 512) (hy : y.toNat < 512) (h : IntOp.cmpi .sle x y = 1#1) : x.toNat ≤ y.toNat := by
  have a := IntOp.cmpi_sle.mp h
  rw [BitVec.toInt_eq_toNat_cond, BitVec.toInt_eq_toNat_cond, if_pos (by omega), if_pos (by omega)] at a
  omega

variable {F : FTy → Type} [FloatOps F]

/-- The first precondition: every group id lies from 0 to 511. -/
theorem in_range_of [Cert.Pre_ids_in_range.Facts] (a0 : FVec F Pre_ids_in_range.S100000x128 .f32) (a1 : FVec F Pre_ids_in_range.S100000x16x3 .f32)
    (a2 : IVec Pre_ids_in_range.S100000 32) (a3 : FVec F Pre_ids_in_range.S176x128 .f32) (a4 : FVec F Pre_ids_in_range.S128 .f32)
    (a5 : FVec F Pre_ids_in_range.S128x1 .f32) (a6 : FVec F Pre_ids_in_range.S1 .f32) (a7 : FVec F Pre_ids_in_range.S176x128 .f32)
    (a8 : FVec F Pre_ids_in_range.S128 .f32) (a9 : FVec F Pre_ids_in_range.S128x128 .f32) (a10 : FVec F Pre_ids_in_range.S128 .f32)
    (h : Cert.Pre_ids_in_range.fn (F := F) a0 a1 a2 a3 a4 a5 a6 a7 a8 a9 a10 = fun _ => 1#1) (n : Fin 100000) : (a2 (ix1 n)).toNat < 512 := by
  have h0 := congrFun h (fun a => a.elim0)
  dsimp only [Cert.Pre_ids_in_range.fn] at h0
  have h1 := Host.reduce_andi_all _ _ _ _ _ h0 (ix1 n)
  obtain ⟨ha, hb⟩ := IntOp.andi_eq_one.mp h1
  exact word_lt _ ha hb

end Cert.Proof

end
-- ==== Proof.Body.lean ====
/-
  The kernel body's triple, at any float values: from whole memrefs at given contents, one run of the body leaves the
  inputs as they were, the two accumulators one block further (`stepS`, `stepV`) and, at the last point, the output at
  the result computed from the accumulators (`outB`).
-/
module

public import proofs.«01_k».proof.Proof.Gen.KernelIdeal.Frame
public import proofs.«01_k».proof.Proof.Gen.KernelIdeal.Skeleton
public import Idealize.ShloMosaic.Lib.Claim
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## What one run of the body computes -/

/-- The one word of the row-count buffer. -/
def word1 (x : Vec F S1 .i32) : Elt F .i32 :=
  View.ld x (Rect.unit (s := S1) ![0] S1.size inb_S1_S1_0) (Shape.Idx.first (numel1_S1.symm ▸ Nat.one_pos))

/-- The point's word of a buffer of ten words. -/
def word10 (x : Vec F S10 .i32) (i : grid0.Coords) : Elt F .i32 :=
  View.ld x (Rect.unit (s := S10) (k0_off1 i) S1.size (k0_off1_inb i)) (Shape.Idx.first (numel1_S1.symm ▸ Nat.one_pos))

/-- The rows of the array from the point's block on. -/
def rowsLeft (i : grid0.Coords) (w : Elt F .i32) : BitVec 32 :=
  Scalar.subi w (Scalar.muli (BitVec.ofNat 32 (i 0).val) 10240#32)

/-- The condition under which the accumulators are first zeroed. -/
def isFirst (i : grid0.Coords) : BitVec 1 :=
  Scalar.cmpi .ne (Scalar.extui (Scalar.cmpi .eq (BitVec.ofNat 32 (i 0).val) 0#32) : BitVec 32) 0#32

/-- The condition under which the whole accumulator is updated. -/
def isWide (g e : BitVec 32) : BitVec 1 :=
  Scalar.cmpi .ne (Scalar.extui (Scalar.xori (Scalar.cmpi .slt (Scalar.subi e (Scalar.minsi g 448#32)) 64#32) 1#1) : BitVec 32) 0#32

/-- The block's weights, one row. -/
def wts (i : grid0.Coords) (w : Elt F .i32) (x5 : Vec F S10240x128 .f32) (x6 : Vec F S48x10240 .f32) (x7 : Vec F S128x128 .bf16)
    (x8 : Vec F S48x128 .bf16) (x9 : Vec F S1x128 .f32) (x10 : Vec F S128x1 .bf16) (x11 : Vec F S1x1 .f32) : FVec F S1x10240 .bf16 :=
  k0_pay10 (rowsLeft (F := F) i w) (k0_pay9 i w x5 x6 x7 x8 x9) x10 x11

/-- The scalar accumulator after its zeroing and the update of one window of 64 rows, each where its condition holds. -/
def midS (i : grid0.Coords) (w g e : Elt F .i32) (x4 : Vec F S1x1x10240 .i32) (x5 : Vec F S10240x128 .f32) (x6 : Vec F S48x10240 .f32) (x7 : Vec F S128x128 .bf16)
    (x8 : Vec F S48x128 .bf16) (x9 : Vec F S1x128 .f32) (x10 : Vec F S128x1 .bf16) (x11 : Vec F S1x1 .f32)
    (p : Vec F S512x128 .f32) : Vec F S512x128 .f32 :=
  if h : k0_chk1 g e ∧ k0_cond2 g e = 1#1 then
    VecWindow.put (if isFirst i = 1#1 then k0_pay12 else p) (k0_off2 g) S64x128.size
      (k0_pay15 (rowsLeft (F := F) i w) (k0_pay5 i w x5) (k0_pay9 i w x5 x6 x7 x8 x9) x10 x11 x4 g
        (VecWindow.window (if isFirst i = 1#1 then k0_pay12 else p) (k0_off2 g) S64x128.size (k0_off2_inb g e h.1 h.2)))
  else if isFirst i = 1#1 then k0_pay12 else p

/-- The scalar accumulator after the body, from what it held before. -/
def stepS (i : grid0.Coords) (w g e : Elt F .i32) (x4 : Vec F S1x1x10240 .i32) (x5 : Vec F S10240x128 .f32) (x6 : Vec F S48x10240 .f32) (x7 : Vec F S128x128 .bf16)
    (x8 : Vec F S48x128 .bf16) (x9 : Vec F S1x128 .f32) (x10 : Vec F S128x1 .bf16) (x11 : Vec F S1x1 .f32)
    (p : Vec F S512x128 .f32) : Vec F S512x128 .f32 :=
  if isWide g e = 1#1 then
    k0_pay2 (k0_pay5 i w x5) (wts i w x5 x6 x7 x8 x9 x10 x11) (k0_pay11 (F := F) x4) (midS i w g e x4 x5 x6 x7 x8 x9 x10 x11 p)
  else midS i w g e x4 x5 x6 x7 x8 x9 x10 x11 p

/-- The vector accumulator after its zeroing and the update of one window of 64 rows, each where its condition holds. -/
def midV (i : grid0.Coords) (w g e : Elt F .i32) (x4 : Vec F S1x1x10240 .i32) (x5 : Vec F S10240x128 .f32) (x6 : Vec F S48x10240 .f32) (x7 : Vec F S128x128 .bf16)
    (x8 : Vec F S48x128 .bf16) (x9 : Vec F S1x128 .f32) (x10 : Vec F S128x1 .bf16) (x11 : Vec F S1x1 .f32)
    (q : Vec F S512x49 .f32) : Vec F S512x49 .f32 :=
  if h : k0_chk1 g e ∧ k0_cond2 g e = 1#1 then
    VecWindow.put (if isFirst i = 1#1 then k0_pay13 else q) (k0_off3 g) S64x49.size
      (k0_pay16 (rowsLeft (F := F) i w) (k0_pay8 i w x6) (k0_pay9 i w x5 x6 x7 x8 x9) x10 x11 x4 g
        (VecWindow.window (if isFirst i = 1#1 then k0_pay13 else q) (k0_off3 g) S64x49.size (k0_off3_inb g e h.1 h.2)))
  else if isFirst i = 1#1 then k0_pay13 else q

/-- The vector accumulator after the body, from what it held before. -/
def stepV (i : grid0.Coords) (w g e : Elt F .i32) (x4 : Vec F S1x1x10240 .i32) (x5 : Vec F S10240x128 .f32) (x6 : Vec F S48x10240 .f32) (x7 : Vec F S128x128 .bf16)
    (x8 : Vec F S48x128 .bf16) (x9 : Vec F S1x128 .f32) (x10 : Vec F S128x1 .bf16) (x11 : Vec F S1x1 .f32)
    (q : Vec F S512x49 .f32) : Vec F S512x49 .f32 :=
  if isWide g e = 1#1 then
    k0_pay3 (k0_pay8 i w x6) (wts i w x5 x6 x7 x8 x9 x10 x11) (k0_pay11 (F := F) x4) (midV i w g e x4 x5 x6 x7 x8 x9 x10 x11 q)
  else midV i w g e x4 x5 x6 x7 x8 x9 x10 x11 q

/-- The output's buffer after the body: at the last point the result from the accumulators, else what it held. -/
def outB (i : grid0.Coords) (w g e : Elt F .i32) (x4 : Vec F S1x1x10240 .i32) (x5 : Vec F S10240x128 .f32) (x6 : Vec F S48x10240 .f32) (x7 : Vec F S128x128 .bf16) (x8 : Vec F S48x128 .bf16) (x9 : Vec F S1x128 .f32) (x10 : Vec F S128x1 .bf16) (x11 : Vec F S1x1 .f32)
    (x12 : Vec F S176x128 .f32) (x13 : Vec F S1x128 .f32) (x14 : Vec F S128x128 .f32) (x15 : Vec F S1x128 .f32)
    (o : Vec F S512x128 .f32) (p : Vec F S512x128 .f32) (q : Vec F S512x49 .f32) : Vec F S512x128 .f32 :=
  if k0_cond4 i = 1#1 then
    k0_pay4 (stepV i w g e x4 x5 x6 x7 x8 x9 x10 x11 q) (stepS i w g e x4 x5 x6 x7 x8 x9 x10 x11 p) x12 x13 x14 x15
  else o

/-! ## What a buffer reads after stores under conditions -/

section Reads

variable {κ : Kind} {sp : Space} {s : Shape} {e : EltTy} (v : View sig κ sp s e) (f : v.ty.Contents (Elt F))

/-- A whole store under a condition. -/
theorem read_first (Z : BitVec 1) {off : Fin s.rank → ℕ} (inb : ∀ a, off a + s.size a ≤ s.size a)
    (pz : s.Idx → Elt F e) :
    v.read (Elt F) (if hc : Z = 1#1 then v.writes (Elt F) f [⟨Rect.unit off s.size inb, pz⟩] else f)
      = if Z = 1#1 then pz else v.read (Elt F) f := by
  by_cases hz : Z = 1#1
  · rw [dif_pos hz, if_pos hz]; exact View.read_writes_full v f inb pz []
  · rw [dif_neg hz, if_neg hz]

/-- A store of a window under a condition. -/
theorem read_mid (N : BitVec 1) {off size : Fin s.rank → ℕ} (inb : N = 1#1 → ∀ a, off a + size a ≤ s.size a)
    (pn : (h : N = 1#1) → (Rect.unit off size (inb h)).shape.Idx → Elt F e) :
    v.read (Elt F) (if hc : N = 1#1 then v.writes (Elt F) f [⟨Rect.unit off size (inb hc), pn hc⟩] else f)
      = if h : N = 1#1 then VecWindow.put (v.read (Elt F) f) off size (pn h) else v.read (Elt F) f := by
  by_cases hz : N = 1#1
  · rw [dif_pos hz, dif_pos hz]; exact View.read_writes_cons_put v f (inb hz) (pn hz) [] rfl
  · rw [dif_neg hz, dif_neg hz]

/-- A condition joined with one that holds decides as it does. -/
theorem dite_and {α : Type} {A N : Prop} [Decidable A] [Decidable N] (hA : A) {x : N → α} {y : A ∧ N → α} {z : α} (h : ∀ hn, x hn = y ⟨hA, hn⟩) :
    (if hn : N then x hn else z) = if h : A ∧ N then y h else z := by
  by_cases hn : N
  · rw [dif_pos hn, dif_pos ⟨hA, hn⟩]; exact h hn
  · rw [dif_neg hn, dif_neg fun h => hn h.2]

end Reads

/-! ## The body's triple -/

set_option maxHeartbeats 4000000 in
/-- One run of the kernel body on whole memrefs at contents `x1`, …, `x18`, the side condition on the two words it reads
    granted: the inputs end as they were, the output at `outB` and the accumulators at `stepS` and `stepV` of what they held. -/
theorem sound_body (c : Dev nD) (E : Set ℕ) (i : grid0.Coords)
    (arg1 : Memref sig .tc .smem S1 .i32) (harg1 : arg1.IsWhole)
    (arg2 : Memref sig .tc .smem S10 .i32) (harg2 : arg2.IsWhole)
    (arg3 : Memref sig .tc .smem S10 .i32) (harg3 : arg3.IsWhole)
    (arg4 : Memref sig .tc .vmem S1x1x10240 .i32) (harg4 : arg4.IsWhole)
    (arg5 : Memref sig .tc .vmem S10240x128 .f32) (harg5 : arg5.IsWhole)
    (arg6 : Memref sig .tc .vmem S48x10240 .f32) (harg6 : arg6.IsWhole)
    (arg7 : Memref sig .tc .vmem S128x128 .bf16) (harg7 : arg7.IsWhole)
    (arg8 : Memref sig .tc .vmem S48x128 .bf16) (harg8 : arg8.IsWhole)
    (arg9 : Memref sig .tc .vmem S1x128 .f32) (harg9 : arg9.IsWhole)
    (arg10 : Memref sig .tc .vmem S128x1 .bf16) (harg10 : arg10.IsWhole)
    (arg11 : Memref sig .tc .vmem S1x1 .f32) (harg11 : arg11.IsWhole)
    (arg12 : Memref sig .tc .vmem S176x128 .f32) (harg12 : arg12.IsWhole)
    (arg13 : Memref sig .tc .vmem S1x128 .f32) (harg13 : arg13.IsWhole)
    (arg14 : Memref sig .tc .vmem S128x128 .f32) (harg14 : arg14.IsWhole)
    (arg15 : Memref sig .tc .vmem S1x128 .f32) (harg15 : arg15.IsWhole)
    (arg16 : Memref sig .tc .vmem S512x128 .f32) (harg16 : arg16.IsWhole)
    (arg17 : Memref sig .tc .vmem S512x128 .f32) (harg17 : arg17.IsWhole)
    (arg18 : Memref sig .tc .vmem S512x49 .f32) (harg18 : arg18.IsWhole)
    (x1 : Vec F S1 .i32)
    (x2 : Vec F S10 .i32)
    (x3 : Vec F S10 .i32)
    (x4 : Vec F S1x1x10240 .i32)
    (x5 : Vec F S10240x128 .f32)
    (x6 : Vec F S48x10240 .f32)
    (x7 : Vec F S128x128 .bf16)
    (x8 : Vec F S48x128 .bf16)
    (x9 : Vec F S1x128 .f32)
    (x10 : Vec F S128x1 .bf16)
    (x11 : Vec F S1x1 .f32)
    (x12 : Vec F S176x128 .f32)
    (x13 : Vec F S1x128 .f32)
    (x14 : Vec F S128x128 .f32)
    (x15 : Vec F S1x128 .f32)
    (x16 : Vec F S512x128 .f32)
    (x17 : Vec F S512x128 .f32)
    (x18 : Vec F S512x49 .f32)
    (K : PUnit → sProp 𝕄)
    (hchk : k0_chk1 (word10 x2 i) (word10 x3 i)) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare (outB i (word1 x1) (word10 x2 i) (word10 x3 i) x4 x5 x6 x7 x8 x9 x10 x11 x12 x13 x14 x15 x16 x17 x18) ∗ owns (c : Thread nD τ) arg17 fullShare (stepS i (word1 x1) (word10 x2 i) (word10 x3 i) x4 x5 x6 x7 x8 x9 x10 x11 x17) ∗ owns (c : Thread nD τ) arg18 fullShare (stepV i (word1 x1) (word10 x2 i) (word10 x3 i) x4 x5 x6 x7 x8 x9 x10 x11 x18)) -∗ K ⟨⟩))
      ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__fused_body_eq_skeleton]; unfold cc0__fused_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
  subst hf1 hf2 hf3 hf4 hf5 hf6 hf7 hf8 hf9 hf10 hf11 hf12 hf13 hf14 hf15 hf16 hf17 hf18
  sl_exec
  -- the words read, and the loaded blocks
  have hw1 : sound_body.sl.v2 c i arg1 f1 = rowsLeft (F := F) i (word1 (View.read (Elt F) arg1.view f1)) := rfl
  have hr1 : sound_body.sl.r_1 c i arg1 arg5 f1 f5 = k0_pay5 i (word1 (View.read (Elt F) arg1.view f1)) (View.read (Elt F) arg5.view f5) :=
    congrArg (k0_pay5 i (word1 (View.read (Elt F) arg1.view f1))) (View.readAt_full _ _ _)
  have hr2 : sound_body.sl.r_2 c i arg1 arg6 f1 f6 = k0_pay8 i (word1 (View.read (Elt F) arg1.view f1)) (View.read (Elt F) arg6.view f6) :=
    congrArg (k0_pay8 i (word1 (View.read (Elt F) arg1.view f1))) (View.readAt_full _ _ _)
  have hr3 : sound_body.sl.r_3 c i arg1 arg5 arg6 arg7 arg8 arg9 f1 f5 f6 f7 f8 f9 = k0_pay9 i (word1 (View.read (Elt F) arg1.view f1))
      (View.read (Elt F) arg5.view f5) (View.read (Elt F) arg6.view f6) (View.read (Elt F) arg7.view f7) (View.read (Elt F) arg8.view f8)
      (View.read (Elt F) arg9.view f9) := by
    rw [← View.readAt_full arg5.view f5 inb_S10240x128_S10240x128_0_0, ← View.readAt_full arg6.view f6 inb_S48x10240_S48x10240_0_0,
      ← View.readAt_full arg7.view f7 inb_S128x128_S128x128_0_0, ← View.readAt_full arg8.view f8 inb_S48x128_S48x128_0_0,
      ← View.readAt_full arg9.view f9 inb_S1x128_S1x128_0_0]
    rfl
  have h10 := View.readAt_full (Val := Elt F) arg10.view f10 inb_S128x1_S128x1_0_0
  have h11 := View.readAt_full (Val := Elt F) arg11.view f11 inb_S1x1_S1x1_0_0
  have h4 := View.readAt_full (Val := Elt F) arg4.view f4 inb_S1x1x10240_S1x1x10240_0_0_0
  have hr6 : sound_body.sl.r_6 c i arg1 arg5 arg6 arg7 arg8 arg9 arg10 arg11 f1 f5 f6 f7 f8 f9 f10 f11 = wts i (word1 (View.read (Elt F) arg1.view f1))
      (View.read (Elt F) arg5.view f5) (View.read (Elt F) arg6.view f6) (View.read (Elt F) arg7.view f7) (View.read (Elt F) arg8.view f8)
      (View.read (Elt F) arg9.view f9) (View.read (Elt F) arg10.view f10) (View.read (Elt F) arg11.view f11) := by
    unfold wts; rw [← hr3, ← h10, ← h11]; rfl
  have hr7 : sound_body.sl.r_7 c arg4 f4 = k0_pay11 (F := F) (View.read (Elt F) arg4.view f4) :=
    congrArg (k0_pay11 (F := F)) (View.readAt_full _ _ _)
  -- the scalar accumulator
  have zS := read_first (F := F) arg17.view f17 (sound_body.sl.v73 i) inb_S512x128_S512x128_0_0 k0_pay12
  have wS : ∀ hn, sound_body.sl.v95 c i arg2 arg3 arg17 f2 f3 f17 hchk hn = VecWindow.window
      (if isFirst i = 1#1 then k0_pay12 else (View.read (Elt F) arg17.view f17)) (k0_off2 (word10 (View.read (Elt F) arg2.view f2) i)) S64x128.size
      (k0_off2_inb _ _ hchk hn) := fun hn =>
    (View.readAt_unit _ _ _ rfl _).trans (congrArg (fun z => VecWindow.window z _ _ _) zS)
  have pnS : ∀ hn, k0_pay15 (sound_body.sl.v2 c i arg1 f1) (sound_body.sl.r_1 c i arg1 arg5 f1 f5)
      (sound_body.sl.r_3 c i arg1 arg5 arg6 arg7 arg8 arg9 f1 f5 f6 f7 f8 f9)
      (View.readAt (Elt F) arg10.view (Rect.unit ![0, 0] S128x1.size inb_S128x1_S128x1_0_0).toLoadRect f10)
      (View.readAt (Elt F) arg11.view (Rect.unit ![0, 0] S1x1.size inb_S1x1_S1x1_0_0).toLoadRect f11)
      (View.readAt (Elt F) arg4.view (Rect.unit ![0, 0, 0] S1x1x10240.size inb_S1x1x10240_S1x1x10240_0_0_0).toLoadRect f4)
      (sound_body.sl.r_4 c i arg2 f2) (sound_body.sl.v95 c i arg2 arg3 arg17 f2 f3 f17 hchk hn) = _ := fun hn => by
    rw [wS hn, hw1, hr1, hr3, h10, h11, h4]
  have mS : View.read (Elt F) arg17.view (if hc : k0_cond2 (sound_body.sl.r_4 c i arg2 f2) (sound_body.sl.r_5 c i arg3 f3) = 1#1 then
        arg17.view.writes (Elt F) (if hc : sound_body.sl.v73 i = 1#1 then
            arg17.view.writes (Elt F) f17 [⟨Rect.unit ![0, 0] S512x128.size inb_S512x128_S512x128_0_0, k0_pay12⟩] else f17)
          [⟨Rect.unit (k0_off2 (sound_body.sl.r_4 c i arg2 f2)) S64x128.size (k0_off2_inb _ _ hchk hc),
            k0_pay15 (sound_body.sl.v2 c i arg1 f1) (sound_body.sl.r_1 c i arg1 arg5 f1 f5)
      (sound_body.sl.r_3 c i arg1 arg5 arg6 arg7 arg8 arg9 f1 f5 f6 f7 f8 f9)
      (View.readAt (Elt F) arg10.view (Rect.unit ![0, 0] S128x1.size inb_S128x1_S128x1_0_0).toLoadRect f10)
      (View.readAt (Elt F) arg11.view (Rect.unit ![0, 0] S1x1.size inb_S1x1_S1x1_0_0).toLoadRect f11)
      (View.readAt (Elt F) arg4.view (Rect.unit ![0, 0, 0] S1x1x10240.size inb_S1x1x10240_S1x1x10240_0_0_0).toLoadRect f4)
      (sound_body.sl.r_4 c i arg2 f2) (sound_body.sl.v95 c i arg2 arg3 arg17 f2 f3 f17 hchk hc)⟩]
      else if hc : sound_body.sl.v73 i = 1#1 then
            arg17.view.writes (Elt F) f17 [⟨Rect.unit ![0, 0] S512x128.size inb_S512x128_S512x128_0_0, k0_pay12⟩] else f17)
      = midS i (word1 (View.read (Elt F) arg1.view f1)) (word10 (View.read (Elt F) arg2.view f2) i) (word10 (View.read (Elt F) arg3.view f3) i) (View.read (Elt F) arg4.view f4) (View.read (Elt F) arg5.view f5) (View.read (Elt F) arg6.view f6) (View.read (Elt F) arg7.view f7) (View.read (Elt F) arg8.view f8) (View.read (Elt F) arg9.view f9) (View.read (Elt F) arg10.view f10) (View.read (Elt F) arg11.view f11) (View.read (Elt F) arg17.view f17) := by
    refine (read_mid _ _ _ _ _).trans ?_
    rw [zS]
    exact dite_and hchk fun hn => congrArg (fun z => VecWindow.put _ _ _ z) (pnS hn)
  have lS : sound_body.sl.v89 c i arg1 arg2 arg3 arg4 arg5 arg6 arg7 arg8 arg9 arg10 arg11 arg17 f1 f2 f3 f4 f5 f6 f7 f8 f9 f10 f11 f17 hchk = midS i (word1 (View.read (Elt F) arg1.view f1)) (word10 (View.read (Elt F) arg2.view f2) i) (word10 (View.read (Elt F) arg3.view f3) i) (View.read (Elt F) arg4.view f4) (View.read (Elt F) arg5.view f5) (View.read (Elt F) arg6.view f6) (View.read (Elt F) arg7.view f7) (View.read (Elt F) arg8.view f8) (View.read (Elt F) arg9.view f9) (View.read (Elt F) arg10.view f10) (View.read (Elt F) arg11.view f11) (View.read (Elt F) arg17.view f17) := (View.readAt_full _ _ _).trans mS
  -- the vector accumulator
  have zV := read_first (F := F) arg18.view f18 (sound_body.sl.v73 i) inb_S512x49_S512x49_0_0 k0_pay13
  have wV : ∀ hn, sound_body.sl.v102 c i arg2 arg3 arg18 f2 f3 f18 hchk hn = VecWindow.window
      (if isFirst i = 1#1 then k0_pay13 else (View.read (Elt F) arg18.view f18)) (k0_off3 (word10 (View.read (Elt F) arg2.view f2) i)) S64x49.size
      (k0_off3_inb _ _ hchk hn) := fun hn =>
    (View.readAt_unit _ _ _ rfl _).trans (congrArg (fun z => VecWindow.window z _ _ _) zV)
  have pnV : ∀ hn, k0_pay16 (sound_body.sl.v2 c i arg1 f1) (sound_body.sl.r_2 c i arg1 arg6 f1 f6)
      (sound_body.sl.r_3 c i arg1 arg5 arg6 arg7 arg8 arg9 f1 f5 f6 f7 f8 f9)
      (View.readAt (Elt F) arg10.view (Rect.unit ![0, 0] S128x1.size inb_S128x1_S128x1_0_0).toLoadRect f10)
      (View.readAt (Elt F) arg11.view (Rect.unit ![0, 0] S1x1.size inb_S1x1_S1x1_0_0).toLoadRect f11)
      (View.readAt (Elt F) arg4.view (Rect.unit ![0, 0, 0] S1x1x10240.size inb_S1x1x10240_S1x1x10240_0_0_0).toLoadRect f4)
      (sound_body.sl.r_4 c i arg2 f2) (sound_body.sl.v102 c i arg2 arg3 arg18 f2 f3 f18 hchk hn) = _ := fun hn => by
    rw [wV hn, hw1, hr2, hr3, h10, h11, h4]
  have mV : View.read (Elt F) arg18.view (if hc : k0_cond2 (sound_body.sl.r_4 c i arg2 f2) (sound_body.sl.r_5 c i arg3 f3) = 1#1 then
        arg18.view.writes (Elt F) (if hc : sound_body.sl.v73 i = 1#1 then
            arg18.view.writes (Elt F) f18 [⟨Rect.unit ![0, 0] S512x49.size inb_S512x49_S512x49_0_0, k0_pay13⟩] else f18)
          [⟨Rect.unit (k0_off3 (sound_body.sl.r_4 c i arg2 f2)) S64x49.size (k0_off3_inb _ _ hchk hc),
            k0_pay16 (sound_body.sl.v2 c i arg1 f1) (sound_body.sl.r_2 c i arg1 arg6 f1 f6)
      (sound_body.sl.r_3 c i arg1 arg5 arg6 arg7 arg8 arg9 f1 f5 f6 f7 f8 f9)
      (View.readAt (Elt F) arg10.view (Rect.unit ![0, 0] S128x1.size inb_S128x1_S128x1_0_0).toLoadRect f10)
      (View.readAt (Elt F) arg11.view (Rect.unit ![0, 0] S1x1.size inb_S1x1_S1x1_0_0).toLoadRect f11)
      (View.readAt (Elt F) arg4.view (Rect.unit ![0, 0, 0] S1x1x10240.size inb_S1x1x10240_S1x1x10240_0_0_0).toLoadRect f4)
      (sound_body.sl.r_4 c i arg2 f2) (sound_body.sl.v102 c i arg2 arg3 arg18 f2 f3 f18 hchk hc)⟩]
      else if hc : sound_body.sl.v73 i = 1#1 then
            arg18.view.writes (Elt F) f18 [⟨Rect.unit ![0, 0] S512x49.size inb_S512x49_S512x49_0_0, k0_pay13⟩] else f18)
      = midV i (word1 (View.read (Elt F) arg1.view f1)) (word10 (View.read (Elt F) arg2.view f2) i) (word10 (View.read (Elt F) arg3.view f3) i) (View.read (Elt F) arg4.view f4) (View.read (Elt F) arg5.view f5) (View.read (Elt F) arg6.view f6) (View.read (Elt F) arg7.view f7) (View.read (Elt F) arg8.view f8) (View.read (Elt F) arg9.view f9) (View.read (Elt F) arg10.view f10) (View.read (Elt F) arg11.view f11) (View.read (Elt F) arg18.view f18) := by
    refine (read_mid _ _ _ _ _).trans ?_
    rw [zV]
    exact dite_and hchk fun hn => congrArg (fun z => VecWindow.put _ _ _ z) (pnV hn)
  have lV : sound_body.sl.v95_1 c i arg1 arg2 arg3 arg4 arg5 arg6 arg7 arg8 arg9 arg10 arg11 arg18 f1 f2 f3 f4 f5 f6 f7 f8 f9 f10 f11 f18 hchk = midV i (word1 (View.read (Elt F) arg1.view f1)) (word10 (View.read (Elt F) arg2.view f2) i) (word10 (View.read (Elt F) arg3.view f3) i) (View.read (Elt F) arg4.view f4) (View.read (Elt F) arg5.view f5) (View.read (Elt F) arg6.view f6) (View.read (Elt F) arg7.view f7) (View.read (Elt F) arg8.view f8) (View.read (Elt F) arg9.view f9) (View.read (Elt F) arg10.view f10) (View.read (Elt F) arg11.view f11) (View.read (Elt F) arg18.view f18) := (View.readAt_full _ _ _).trans mV
  -- the accumulators as the output's computation loads them
  have eS : sound_body.sl.v88 c i arg1 arg2 arg3 arg4 arg5 arg6 arg7 arg8 arg9 arg10 arg11 arg17 f1 f2 f3 f4 f5 f6 f7 f8 f9 f10 f11 f17 hchk = stepS i (word1 (View.read (Elt F) arg1.view f1)) (word10 (View.read (Elt F) arg2.view f2) i) (word10 (View.read (Elt F) arg3.view f3) i) (View.read (Elt F) arg4.view f4) (View.read (Elt F) arg5.view f5) (View.read (Elt F) arg6.view f6) (View.read (Elt F) arg7.view f7) (View.read (Elt F) arg8.view f8) (View.read (Elt F) arg9.view f9) (View.read (Elt F) arg10.view f10) (View.read (Elt F) arg11.view f11) (View.read (Elt F) arg17.view f17) := by
    refine (View.readAt_full _ _ _).trans ((read_first _ _ _ _ _).trans ?_)
    rw [lS, mS, hr6, hr7, hr1]
    rfl
  have eV : sound_body.sl.v82 c i arg1 arg2 arg3 arg4 arg5 arg6 arg7 arg8 arg9 arg10 arg11 arg18 f1 f2 f3 f4 f5 f6 f7 f8 f9 f10 f11 f18 hchk = stepV i (word1 (View.read (Elt F) arg1.view f1)) (word10 (View.read (Elt F) arg2.view f2) i) (word10 (View.read (Elt F) arg3.view f3) i) (View.read (Elt F) arg4.view f4) (View.read (Elt F) arg5.view f5) (View.read (Elt F) arg6.view f6) (View.read (Elt F) arg7.view f7) (View.read (Elt F) arg8.view f8) (View.read (Elt F) arg9.view f9) (View.read (Elt F) arg10.view f10) (View.read (Elt F) arg11.view f11) (View.read (Elt F) arg18.view f18) := by
    refine (View.readAt_full _ _ _).trans ((read_first _ _ _ _ _).trans ?_)
    rw [lV, mV, hr6, hr7, hr2]
    rfl
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    refine (read_first _ _ _ _ _).trans ?_
    rw [eS, eV, View.readAt_full, View.readAt_full, View.readAt_full, View.readAt_full]
    rfl
  isplitl [H17]
  · iexists _; isplitr
    swap; · iexact H17
    ipureintro
    refine (read_first _ _ _ _ _).trans ?_
    rw [lS, mS, hr6, hr7, hr1]
    rfl
  · iexists _; isplitr
    swap; · iexact H18
    ipureintro
    refine (read_first _ _ _ _ _).trans ?_
    rw [lV, mV, hr6, hr7, hr2]
    rfl

end Cert.KernelIdeal.Gen
end
-- ==== Proof.Masks.lean ====
/-
  Which rows of a block the kernel keeps, at any float values: the two masked blocks read entry by entry, and the
  row-count word's comparison in closed form.
-/
module

public import proofs.«01_k».proof.Proof.Body
public import Idealize.ShloMosaic.Lib.ValueIdxCore
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.ShloMosaic.ValueIdx

variable {F : FTy → Type} [FloatOps F]

/-- The rows the point's block has inside the array, as a 16-bit word. -/
def cntWord (n : ℕ) : BitVec 16 :=
  BitVec.setWidth 16 (Scalar.minsi (Scalar.subi 100000#32 (Scalar.muli (BitVec.ofNat 32 n) 10240#32)) 10240#32)

/-- The row comparison decides whether the row is inside the array. -/
theorem mask_bit (n r : ℕ) (hn : n < 10) (hr : r < 10240) :
    IntOp.cmpi .slt (BitVec.ofNat 16 r) (cntWord n) = if n * 10240 + r < 100000 then 1#1 else 0#1 := by
  have key : ∀ K : ℕ, K ≤ 10240 → IntOp.cmpi .slt (BitVec.ofNat 16 r) (BitVec.ofNat 16 K) = if r < K then 1#1 else 0#1 := by
    intro K hK
    have h1 : (BitVec.ofNat 16 r).slt (BitVec.ofNat 16 K) = decide (r < K) := by
      rw [BitVec.slt_eq_decide]
      have a : (BitVec.ofNat 16 r).toInt = r := by rw [BitVec.toInt_eq_toNat_of_lt] <;> simp <;> omega
      have b : (BitVec.ofNat 16 K).toInt = K := by rw [BitVec.toInt_eq_toNat_of_lt] <;> simp <;> omega
      rw [a, b]; simp
    show BitVec.ofBool _ = _
    simp only [h1]
    by_cases h : r < K <;> simp [h]
  have hc : ∃ K : ℕ, K ≤ 10240 ∧ cntWord n = BitVec.ofNat 16 K ∧ (r < K ↔ n * 10240 + r < 100000) := by
    interval_cases n
    all_goals first
      | exact ⟨10240, le_refl _, by decide, by omega⟩
      | exact ⟨7840, by omega, by decide, by omega⟩
  obtain ⟨K, hK, e, hiff⟩ := hc
  rw [e, key K hK]
  exact if_congr hiff rfl rfl

/-- A comparison of words read at an index. -/
theorem cmpi_at {s : Shape} {w : ℕ} (p : CmpIPredicate) (a b : IVec s w) (j : s.Idx) : cmpi p a b j = IntOp.cmpi p (a j) (b j) := rfl

/-- A truncation of words read at an index. -/
theorem trunci_at {s : Shape} {v w : ℕ} (a : IVec s v) (h : w < v) (j : s.Idx) : trunci w a h j = BitVec.setWidth w (a j) := rfl

/-- The scalar features' block read at an entry: the cast word on a row inside the array, zero past it. -/
theorem pay5_apply (i : grid0.Coords) (X : Vec F S10240x128 .f32) (r : Fin 10240) (d : Fin 128) :
    k0_pay5 (F := F) i 100000#32 X (ix2 r d)
      = if (i 0).val * 10240 + r.val < 100000 then truncf .bf16 X bitsLt_bf16_f32 (ix2 r d) else Scalar.ofBits .bf16 0x0000#16 := by
  unfold k0_pay5
  dsimp only
  rw [select_apply, broadcastTo_apply _ _ (ix2 r d) (ix2 r (0 : Fin 1)) (by intro a; fin_cases a <;> rfl), shapeCast_self]
  have := mask_bit (i 0).val r.val (i 0).isLt r.isLt
  have e : cmpi .slt (iota .tc S10240x1 16 [0] iota_S10240x1_d0_w16) (trunci 16 (broadcast S10240x1 (Scalar.minsi (Scalar.subi (100000#32 : BitVec 32) (Scalar.muli (BitVec.ofNat 32 (i 0).val) 10240#32)) 10240#32)) natLt_16_32) (ix2 r (0 : Fin 1))
      = if (i 0).val * 10240 + r.val < 100000 then 1#1 else 0#1 := by
    refine Eq.trans ?_ this
    rw [cmpi_at, iota_single_apply, trunci_at, broadcast_apply]
    rfl
  rw [e]
  split <;> rfl

/-- The column mask read at a column: whether that row is inside the array. -/
theorem pay6_apply (i : grid0.Coords) (r : Fin 10240) :
    k0_pay6 (F := F) i 100000#32 (ix2 (0 : Fin 1) r) = if (i 0).val * 10240 + r.val < 100000 then 1#1 else 0#1 := by
  unfold k0_pay6
  dsimp only
  refine Eq.trans ?_ (mask_bit (i 0).val r.val (i 0).isLt r.isLt)
  rw [cmpi_at, iota_single_apply, trunci_at, broadcast_apply]
  rfl

/-- The vector features' block read at an entry: the cast word on a column inside the array, zero past it. -/
theorem pay7_apply (i : grid0.Coords) (X : Vec F S48x10240 .f32) (k : Fin 48) (r : Fin 10240) :
    k0_pay7 (F := F) i 100000#32 X (ix2 k r)
      = if (i 0).val * 10240 + r.val < 100000 then truncf .bf16 X bitsLt_bf16_f32 (ix2 k r) else Scalar.ofBits .bf16 0x0000#16 := by
  unfold k0_pay7
  dsimp only
  rw [select_apply, broadcastTo_apply _ _ (ix2 k r) (ix2 (0 : Fin 1) r) (by intro a; fin_cases a <;> rfl), shapeCast_self, shapeCast_self, pay6_apply]
  split <;> rfl

/-- The scalar features' block depends on the rows inside the array alone. -/
theorem pay5_congr (i : grid0.Coords) (X X' : Vec F S10240x128 .f32)
    (h : ∀ (r : Fin 10240) (d : Fin 128), (i 0).val * 10240 + r.val < 100000 → X (ix2 r d) = X' (ix2 r d)) :
    k0_pay5 (F := F) i 100000#32 X = k0_pay5 i 100000#32 X' := by
  funext j
  obtain ⟨r, d, rfl⟩ : ∃ (r : Fin 10240) (d : Fin 128), j = ix2 r d := ⟨j 0, j 1, eq_ix2 j⟩
  rw [pay5_apply, pay5_apply]
  by_cases hr : (i 0).val * 10240 + r.val < 100000
  · rw [if_pos hr, if_pos hr]; exact congrArg (FloatOps.truncf .bf16 bitsLt_bf16_f32 : F .f32 → F .bf16) (h r d hr)
  · rw [if_neg hr, if_neg hr]

/-- The vector features' block depends on the columns inside the array alone. -/
theorem pay7_congr (i : grid0.Coords) (X X' : Vec F S48x10240 .f32)
    (h : ∀ (k : Fin 48) (r : Fin 10240), (i 0).val * 10240 + r.val < 100000 → X (ix2 k r) = X' (ix2 k r)) :
    k0_pay7 (F := F) i 100000#32 X = k0_pay7 i 100000#32 X' := by
  funext j
  obtain ⟨k, r, rfl⟩ : ∃ (k : Fin 48) (r : Fin 10240), j = ix2 k r := ⟨j 0, j 1, eq_ix2 j⟩
  rw [pay7_apply, pay7_apply]
  by_cases hr : (i 0).val * 10240 + r.val < 100000
  · rw [if_pos hr, if_pos hr]; exact congrArg (FloatOps.truncf .bf16 bitsLt_bf16_f32 : F .f32 → F .bf16) (h k r hr)
  · rw [if_neg hr, if_neg hr]

/-- The scalar accumulator's step depends on the blocks' rows inside the array alone. -/
theorem stepS_congr (i : grid0.Coords) (g e : Elt F .i32) (x4 : Vec F S1x1x10240 .i32) (x5 x5' : Vec F S10240x128 .f32) (x6 x6' : Vec F S48x10240 .f32)
    (x7 : Vec F S128x128 .bf16) (x8 : Vec F S48x128 .bf16) (x9 : Vec F S1x128 .f32) (x10 : Vec F S128x1 .bf16) (x11 : Vec F S1x1 .f32)
    (p : Vec F S512x128 .f32)
    (h5 : ∀ (r : Fin 10240) (d : Fin 128), (i 0).val * 10240 + r.val < 100000 → x5 (ix2 r d) = x5' (ix2 r d))
    (h6 : ∀ (k : Fin 48) (r : Fin 10240), (i 0).val * 10240 + r.val < 100000 → x6 (ix2 k r) = x6' (ix2 k r)) :
    stepS (F := F) i 100000#32 g e x4 x5 x6 x7 x8 x9 x10 x11 p = stepS i 100000#32 g e x4 x5' x6' x7 x8 x9 x10 x11 p := by
  have a := pay5_congr i x5 x5' h5
  have b : k0_pay9 (F := F) i 100000#32 x5 x6 x7 x8 x9 = k0_pay9 i 100000#32 x5' x6' x7 x8 x9 := by
    unfold k0_pay9; rw [a, pay7_congr i x6 x6' h6]
  unfold stepS midS wts; rw [a, b]

/-- The vector accumulator's step depends on the blocks' rows inside the array alone. -/
theorem stepV_congr (i : grid0.Coords) (g e : Elt F .i32) (x4 : Vec F S1x1x10240 .i32) (x5 x5' : Vec F S10240x128 .f32) (x6 x6' : Vec F S48x10240 .f32)
    (x7 : Vec F S128x128 .bf16) (x8 : Vec F S48x128 .bf16) (x9 : Vec F S1x128 .f32) (x10 : Vec F S128x1 .bf16) (x11 : Vec F S1x1 .f32)
    (q : Vec F S512x49 .f32)
    (h5 : ∀ (r : Fin 10240) (d : Fin 128), (i 0).val * 10240 + r.val < 100000 → x5 (ix2 r d) = x5' (ix2 r d))
    (h6 : ∀ (k : Fin 48) (r : Fin 10240), (i 0).val * 10240 + r.val < 100000 → x6 (ix2 k r) = x6' (ix2 k r)) :
    stepV (F := F) i 100000#32 g e x4 x5 x6 x7 x8 x9 x10 x11 q = stepV i 100000#32 g e x4 x5' x6' x7 x8 x9 x10 x11 q := by
  have a := pay5_congr i x5 x5' h5
  have b7 := pay7_congr i x6 x6' h6
  have b : k0_pay9 (F := F) i 100000#32 x5 x6 x7 x8 x9 = k0_pay9 i 100000#32 x5' x6' x7 x8 x9 := by
    unfold k0_pay9; rw [a, b7]
  have b8 : k0_pay8 (F := F) i 100000#32 x6 = k0_pay8 i 100000#32 x6' := by
    unfold k0_pay8; rw [b7]
  unfold stepV midV wts; rw [b8, b]

end Cert.KernelIdeal.Gen
end
-- ==== Proof.Run.lean ====
/-
  The kernel's run, at any float values, under two facts about the words it reads (`Side`): at point `n` the two
  accumulators hold `accS n` and `accV n`, and at the last point the output window holds the result computed from them.
-/
module

public import proofs.«01_k».proof.Proof.Masks
public import Idealize.ShloMosaic.Lib.Pipeline.ClipFacts

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks -/

/-- The scalar features' block at a point, its rows past the array's end zero. -/
def blkS (c : Dev nD) (t : Fin cfg0.N) : Vec F S10240x128 .f32 :=
  win0_4.fill (grid0.coords t) (fun _ => Scalar.ofBits .f32 0#32) (iblk m c 4 t)

/-- The vector features' block at a point, its columns past the array's end zero. -/
def blkV (c : Dev nD) (t : Fin cfg0.N) : Vec F S48x10240 .f32 :=
  win0_5.fill (grid0.coords t) (fun _ => Scalar.ofBits .f32 0#32) (iblk m c 5 t)

/-- The words the body reads: the row count is the array's, and at every point the two group ids pass the body's check. -/
structure Side : Prop where
  cnt : ∀ (c : Dev nD) (t : Fin cfg0.N), word1 (F := F) (iblk m c 0 t) = 100000#32
  chk : ∀ (c : Dev nD) (t : Fin cfg0.N),
    k0_chk1 (word10 (F := F) (iblk m c 1 t) (grid0.coords t)) (word10 (F := F) (iblk m c 2 t) (grid0.coords t))

/-- The scalar accumulator one point further. -/
def nextS (c : Dev nD) (t : Fin cfg0.N) (p : Vec F S512x128 .f32) : Vec F S512x128 .f32 :=
  stepS (F := F) (grid0.coords t) 100000#32 (word10 (F := F) (iblk m c 1 t) (grid0.coords t)) (word10 (F := F) (iblk m c 2 t) (grid0.coords t))
    (iblk m c 3 t) (blkS m c t) (blkV m c t) (iblk m c 6 t) (iblk m c 7 t) (iblk m c 8 t) (iblk m c 9 t) (iblk m c 10 t) p

/-- The vector accumulator one point further. -/
def nextV (c : Dev nD) (t : Fin cfg0.N) (q : Vec F S512x49 .f32) : Vec F S512x49 .f32 :=
  stepV (F := F) (grid0.coords t) 100000#32 (word10 (F := F) (iblk m c 1 t) (grid0.coords t)) (word10 (F := F) (iblk m c 2 t) (grid0.coords t))
    (iblk m c 3 t) (blkS m c t) (blkV m c t) (iblk m c 6 t) (iblk m c 7 t) (iblk m c 8 t) (iblk m c 9 t) (iblk m c 10 t) q

/-- The scalar accumulator after `n` points. -/
def accS (c : Dev nD) : ℕ → Vec F S512x128 .f32
  | 0 => k0_pay12
  | n + 1 => if h : n < cfg0.N then nextS m c ⟨n, h⟩ (accS c n) else accS c n

/-- The vector accumulator after `n` points. -/
def accV (c : Dev nD) : ℕ → Vec F S512x49 .f32
  | 0 => k0_pay13
  | n + 1 => if h : n < cfg0.N then nextV m c ⟨n, h⟩ (accV c n) else accV c n

/-- The output computed from the accumulators after a point. -/
def result (c : Dev nD) (t : Fin cfg0.N) : Vec F S512x128 .f32 :=
  k0_pay4 (F := F) (accV m c (t.val + 1)) (accS m c (t.val + 1)) (iblk m c 11 t) (iblk m c 12 t) (iblk m c 13 t) (iblk m c 14 t)

/-! ## The proof data -/

/-- What is carried between points: the two accumulators, at `accS n` and `accV n` once a point has run, and the
    generator register. -/
def carried (c : Dev nD) (n : ℕ) : sProp 𝕄 :=
  iprop(∃ (f : Vec F S512x128 .f32) (g : Vec F S512x49 .f32), ⌜n ≠ 0 → f = accS m c n ∧ g = accV m c n⌝
    ∗ (((c : Thread nD τ).loc cc0_scratch0) ↦{fullShare} f) ∗ (((c : Thread nD τ).loc cc0_scratch1) ↦{fullShare} g)
    ∗ ∃ r, prngReg c r)

/-- The pipeline's proof data: the arrays as the region finds them; after the body every input buffer holds its block and
    the output's the result; the accumulators carried; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blkS m c t
    | ⟨5, _⟩ => blkV m c t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => result m c t
    | ⟨n + 16, h⟩ => absurd (show n + 16 < 16 from h) (by omega)
  Φ t := carried m c t.val
  q _ := fullShare
  owed _ := 0

/-- The proof data's arrays are the region's entry contents. -/
theorem A_eq (c : Dev nD) (w : Fin cfg0.W) : (dats m 0 c).A w = V m c (Pipeline.arrRef spec0 w) := by
  dsimp only [dats]

/-- Input window 0's buffer holds its block after the body. -/
theorem after0_0 (c : Dev nD) (t : Fin cfg0.N) : (dats m 0 c).after 0 t = iblk m c 0 t := by dsimp only [dats]
/-- Input window 0's buffer holds its block before the body. -/
theorem before0_0 (c : Dev nD) (t : Fin cfg0.N) (d) : (dats m 0 c).before 0 t d = iblk m c 0 t :=
  before0_0_of m (dats m 0 c) (A_eq m c 0) (after0_0 m c) t d
/-- Input window 1's buffer holds its block after the body. -/
theorem after0_1 (c : Dev nD) (t : Fin cfg0.N) : (dats m 0 c).after 1 t = iblk m c 1 t := by dsimp only [dats]
/-- Input window 1's buffer holds its block before the body. -/
theorem before0_1 (c : Dev nD) (t : Fin cfg0.N) (d) : (dats m 0 c).before 1 t d = iblk m c 1 t :=
  before0_1_of m (dats m 0 c) (A_eq m c 1) (after0_1 m c) t d
/-- Input window 2's buffer holds its block after the body. -/
theorem after0_2 (c : Dev nD) (t : Fin cfg0.N) : (dats m 0 c).after 2 t = iblk m c 2 t := by dsimp only [dats]
/-- Input window 2's buffer holds its block before the body. -/
theorem before0_2 (c : Dev nD) (t : Fin cfg0.N) (d) : (dats m 0 c).before 2 t d = iblk m c 2 t :=
  before0_2_of m (dats m 0 c) (A_eq m c 2) (after0_2 m c) t d
/-- Input window 3's buffer holds its block after the body. -/
theorem after0_3 (c : Dev nD) (t : Fin cfg0.N) : (dats m 0 c).after 3 t = iblk m c 3 t := by dsimp only [dats]
/-- Input window 3's buffer holds its block before the body. -/
theorem before0_3 (c : Dev nD) (t : Fin cfg0.N) (d) : (dats m 0 c).before 3 t d = iblk m c 3 t :=
  before0_3_of m (dats m 0 c) (A_eq m c 3) (after0_3 m c) t d
/-- Input window 6's buffer holds its block after the body. -/
theorem after0_6 (c : Dev nD) (t : Fin cfg0.N) : (dats m 0 c).after 6 t = iblk m c 6 t := by dsimp only [dats]
/-- Input window 6's buffer holds its block before the body. -/
theorem before0_6 (c : Dev nD) (t : Fin cfg0.N) (d) : (dats m 0 c).before 6 t d = iblk m c 6 t :=
  before0_6_of m (dats m 0 c) (A_eq m c 6) (after0_6 m c) t d
/-- Input window 7's buffer holds its block after the body. -/
theorem after0_7 (c : Dev nD) (t : Fin cfg0.N) : (dats m 0 c).after 7 t = iblk m c 7 t := by dsimp only [dats]
/-- Input window 7's buffer holds its block before the body. -/
theorem before0_7 (c : Dev nD) (t : Fin cfg0.N) (d) : (dats m 0 c).before 7 t d = iblk m c 7 t :=
  before0_7_of m (dats m 0 c) (A_eq m c 7) (after0_7 m c) t d
/-- Input window 8's buffer holds its block after the body. -/
theorem after0_8 (c : Dev nD) (t : Fin cfg0.N) : (dats m 0 c).after 8 t = iblk m c 8 t := by dsimp only [dats]
/-- Input window 8's buffer holds its block before the body. -/
theorem before0_8 (c : Dev nD) (t : Fin cfg0.N) (d) : (dats m 0 c).before 8 t d = iblk m c 8 t :=
  before0_8_of m (dats m 0 c) (A_eq m c 8) (after0_8 m c) t d
/-- Input window 9's buffer holds its block after the body. -/
theorem after0_9 (c : Dev nD) (t : Fin cfg0.N) : (dats m 0 c).after 9 t = iblk m c 9 t := by dsimp only [dats]
/-- Input window 9's buffer holds its block before the body. -/
theorem before0_9 (c : Dev nD) (t : Fin cfg0.N) (d) : (dats m 0 c).before 9 t d = iblk m c 9 t :=
  before0_9_of m (dats m 0 c) (A_eq m c 9) (after0_9 m c) t d
/-- Input window 10's buffer holds its block after the body. -/
theorem after0_10 (c : Dev nD) (t : Fin cfg0.N) : (dats m 0 c).after 10 t = iblk m c 10 t := by dsimp only [dats]
/-- Input window 10's buffer holds its block before the body. -/
theorem before0_10 (c : Dev nD) (t : Fin cfg0.N) (d) : (dats m 0 c).before 10 t d = iblk m c 10 t :=
  before0_10_of m (dats m 0 c) (A_eq m c 10) (after0_10 m c) t d
/-- Input window 11's buffer holds its block after the body. -/
theorem after0_11 (c : Dev nD) (t : Fin cfg0.N) : (dats m 0 c).after 11 t = iblk m c 11 t := by dsimp only [dats]
/-- Input window 11's buffer holds its block before the body. -/
theorem before0_11 (c : Dev nD) (t : Fin cfg0.N) (d) : (dats m 0 c).before 11 t d = iblk m c 11 t :=
  before0_11_of m (dats m 0 c) (A_eq m c 11) (after0_11 m c) t d
/-- Input window 12's buffer holds its block after the body. -/
theorem after0_12 (c : Dev nD) (t : Fin cfg0.N) : (dats m 0 c).after 12 t = iblk m c 12 t := by dsimp only [dats]
/-- Input window 12's buffer holds its block before the body. -/
theorem before0_12 (c : Dev nD) (t : Fin cfg0.N) (d) : (dats m 0 c).before 12 t d = iblk m c 12 t :=
  before0_12_of m (dats m 0 c) (A_eq m c 12) (after0_12 m c) t d
/-- Input window 13's buffer holds its block after the body. -/
theorem after0_13 (c : Dev nD) (t : Fin cfg0.N) : (dats m 0 c).after 13 t = iblk m c 13 t := by dsimp only [dats]
/-- Input window 13's buffer holds its block before the body. -/
theorem before0_13 (c : Dev nD) (t : Fin cfg0.N) (d) : (dats m 0 c).before 13 t d = iblk m c 13 t :=
  before0_13_of m (dats m 0 c) (A_eq m c 13) (after0_13 m c) t d
/-- Input window 14's buffer holds its block after the body. -/
theorem after0_14 (c : Dev nD) (t : Fin cfg0.N) : (dats m 0 c).after 14 t = iblk m c 14 t := by dsimp only [dats]
/-- Input window 14's buffer holds its block before the body. -/
theorem before0_14 (c : Dev nD) (t : Fin cfg0.N) (d) : (dats m 0 c).before 14 t d = iblk m c 14 t :=
  before0_14_of m (dats m 0 c) (A_eq m c 14) (after0_14 m c) t d

/-- The scalar features' buffer after the body. -/
theorem after0_4 (c : Dev nD) (t : Fin cfg0.N) : (dats m 0 c).after 4 t = blkS m c t := by dsimp only [dats]
/-- The vector features' buffer after the body. -/
theorem after0_5 (c : Dev nD) (t : Fin cfg0.N) : (dats m 0 c).after 5 t = blkV m c t := by dsimp only [dats]
/-- The output's buffer after the body. -/
theorem after0_15 (c : Dev nD) (t : Fin cfg0.N) : (dats m 0 c).after 15 t = result m c t := by dsimp only [dats]

/-- The scalar features' buffer before the body: the block on the rows inside the array, anything elsewhere. -/
theorem before0_4 (c : Dev nD) (t : Fin cfg0.N) (d) : (dats m 0 c).before 4 t d = win0_4.fill (grid0.coords t) d (iblk m c 4 t) := by
  unfold Dat.before; rw [if_pos (fetch0_4 t)]
  unfold Dat.fetched Dat.blockOf iblk; rw [A_eq]; try rfl
/-- The vector features' buffer before the body: the block on the columns inside the array, anything elsewhere. -/
theorem before0_5 (c : Dev nD) (t : Fin cfg0.N) (d) : (dats m 0 c).before 5 t d = win0_5.fill (grid0.coords t) d (iblk m c 5 t) := by
  unfold Dat.before; rw [if_pos (fetch0_5 t)]
  unfold Dat.fetched Dat.blockOf iblk; rw [A_eq]; try rfl

/-! ## The points -/

/-- A point's one coordinate is its number. -/
theorem coords_val : ∀ t : Fin cfg0.N, ((grid0.coords t) 0).val = t.val := by decide +kernel

/-- The output is computed at the last point and at no other. -/
theorem cond4_iff : ∀ t : Fin cfg0.N, k0_cond4 (grid0.coords t) = 1#1 ↔ t.val = 9 := by decide +kernel

/-- The accumulators are zeroed at the first point and at no other. -/
theorem isFirst_iff : ∀ t : Fin cfg0.N, isFirst (grid0.coords t) = 1#1 ↔ t.val = 0 := by decide +kernel

/-- A row of the scalar features' block inside the array is one the fetch fills. -/
theorem moved_4 (t : Fin cfg0.N) (r : Fin 10240) (d : Fin 128) (h : ((grid0.coords t) 0).val * 10240 + r.val < 100000) :
    win0_4.moved (grid0.coords t) (ix2 r d) = true := by
  refine (win0_4.moved_iff _ _).mpr ?_
  have e : ∀ t : Fin cfg0.N, win0_4.xsize (grid0.coords t) 0 = min 10240 (100000 - ((grid0.coords t) 0).val * 10240) ∧ win0_4.xsize (grid0.coords t) 1 = 128 := by
    decide +kernel
  intro a
  match a with
  | ⟨0, _⟩ => show r.val < win0_4.xsize (grid0.coords t) 0; rw [(e t).1]; have := r.isLt; omega
  | ⟨1, _⟩ => show d.val < win0_4.xsize (grid0.coords t) 1; rw [(e t).2]; exact d.isLt

/-- A column of the vector features' block inside the array is one the fetch fills. -/
theorem moved_5 (t : Fin cfg0.N) (k : Fin 48) (r : Fin 10240) (h : ((grid0.coords t) 0).val * 10240 + r.val < 100000) :
    win0_5.moved (grid0.coords t) (ix2 k r) = true := by
  refine (win0_5.moved_iff _ _).mpr ?_
  have e : ∀ t : Fin cfg0.N, win0_5.xsize (grid0.coords t) 1 = min 10240 (100000 - ((grid0.coords t) 0).val * 10240) ∧ win0_5.xsize (grid0.coords t) 0 = 48 := by
    decide +kernel
  intro a
  match a with
  | ⟨1, _⟩ => show r.val < win0_5.xsize (grid0.coords t) 1; rw [(e t).1]; have := r.isLt; omega
  | ⟨0, _⟩ => show k.val < win0_5.xsize (grid0.coords t) 0; rw [(e t).2]; exact k.isLt

/-- Fillings of a block agree where the fetch fills it. -/
theorem fill_eq (w : Window sig grid0) (i : grid0.Coords) {α : Type} (d d' : w.block.Idx → α) (g : (w.xblock i).Idx → α) (j : w.block.Idx)
    (h : w.moved i j = true) : w.fill i d g j = w.fill i d' g j := by
  unfold Window.fill; rw [dif_pos h, dif_pos h]

/-- The step from a buffer filled with anything past the array's end is the step from one filled with zeros. -/
theorem step_at (hs : Side m) (c : Dev nD) (t : Fin cfg0.N) (d4 : Vec F S10240x128 .f32) (d5 : Vec F S48x10240 .f32) (p : Vec F S512x128 .f32) (q : Vec F S512x49 .f32) :
    stepS (F := F) (grid0.coords t) (word1 (F := F) (iblk m c 0 t)) (word10 (F := F) (iblk m c 1 t) (grid0.coords t)) (word10 (F := F) (iblk m c 2 t) (grid0.coords t))
      (iblk m c 3 t) (win0_4.fill (grid0.coords t) d4 (iblk m c 4 t)) (win0_5.fill (grid0.coords t) d5 (iblk m c 5 t)) (iblk m c 6 t) (iblk m c 7 t) (iblk m c 8 t) (iblk m c 9 t) (iblk m c 10 t) p
      = nextS m c t p
    ∧ stepV (F := F) (grid0.coords t) (word1 (F := F) (iblk m c 0 t)) (word10 (F := F) (iblk m c 1 t) (grid0.coords t)) (word10 (F := F) (iblk m c 2 t) (grid0.coords t))
      (iblk m c 3 t) (win0_4.fill (grid0.coords t) d4 (iblk m c 4 t)) (win0_5.fill (grid0.coords t) d5 (iblk m c 5 t)) (iblk m c 6 t) (iblk m c 7 t) (iblk m c 8 t) (iblk m c 9 t) (iblk m c 10 t) q
      = nextV m c t q := by
  rw [hs.cnt c t]
  exact ⟨stepS_congr _ _ _ _ _ _ _ _ _ _ _ _ _ _ (fun r d h => fill_eq win0_4 _ _ _ _ _ (moved_4 t r d h)) (fun k r h => fill_eq win0_5 _ _ _ _ _ (moved_5 t k r h)),
    stepV_congr _ _ _ _ _ _ _ _ _ _ _ _ _ _ (fun r d h => fill_eq win0_4 _ _ _ _ _ (moved_4 t r d h)) (fun k r h => fill_eq win0_5 _ _ _ _ _ (moved_5 t k r h))⟩

/-- One point further from what is carried: the first point's step forgets what it found. -/
theorem next_carried (c : Dev nD) (t : Fin cfg0.N) (f : Vec F S512x128 .f32) (g : Vec F S512x49 .f32)
    (h : t.val ≠ 0 → f = accS m c t.val ∧ g = accV m c t.val) :
    nextS m c t f = accS m c (t.val + 1) ∧ nextV m c t g = accV m c (t.val + 1) := by
  have hS : accS m c (t.val + 1) = nextS m c t (accS m c t.val) := by
    rw [accS]; exact dif_pos t.isLt
  have hV : accV m c (t.val + 1) = nextV m c t (accV m c t.val) := by
    rw [accV]; exact dif_pos t.isLt
  rw [hS, hV]
  by_cases h0 : t.val = 0
  · have hf := (isFirst_iff t).mpr h0
    constructor
    · unfold nextS stepS midS; simp only [if_pos hf]
    · unfold nextV stepV midV; simp only [if_pos hf]
  · rw [← (h h0).1, ← (h h0).2]; exact ⟨rfl, rfl⟩

end Cert.KernelIdeal.Gen
end
-- ==== Proof.Main.lean ====
/-
  The kernel's body obligation at every point, its run from any launch memory, and what the run leaves: the arguments
  unchanged and the result array at the result computed at the last point.
-/
module

public import proofs.«01_k».proof.Proof.Run
public import Idealize.ShloMosaic.Lib.Pipeline.KitQuiescent

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body the pipeline runs at a point is the kernel's at the point's buffers. -/
theorem defs₀_at (t : Fin cfg0.N) : (defs₀ (F := F)) .tc cfg0.body (cfg0.bodyArgs t (cfg0.slots t)) = bodyAt0 t := by
  unfold defs₀; rw [Defs.onTc_tc]

/-- What the output's buffer holds after the body. -/
theorem outB_at (hs : Side m) (c : Dev nD) (t : Fin cfg0.N) (d4 : Vec F S10240x128 .f32) (d5 : Vec F S48x10240 .f32) (o : Vec F S512x128 .f32)
    (f : Vec F S512x128 .f32) (g : Vec F S512x49 .f32) (h : t.val ≠ 0 → f = accS m c t.val ∧ g = accV m c t.val) :
    outB (F := F) (grid0.coords t) (word1 (F := F) (iblk m c 0 t)) (word10 (F := F) (iblk m c 1 t) (grid0.coords t)) (word10 (F := F) (iblk m c 2 t) (grid0.coords t))
      (iblk m c 3 t) (win0_4.fill (grid0.coords t) d4 (iblk m c 4 t)) (win0_5.fill (grid0.coords t) d5 (iblk m c 5 t)) (iblk m c 6 t) (iblk m c 7 t) (iblk m c 8 t) (iblk m c 9 t) (iblk m c 10 t)
      (iblk m c 11 t) (iblk m c 12 t) (iblk m c 13 t) (iblk m c 14 t) o f g
      = if k0_cond4 (grid0.coords t) = 1#1 then result m c t else o := by
  unfold outB
  rw [(step_at m hs c t d4 d5 f g).1, (step_at m hs c t d4 d5 f g).2, (next_carried m c t f g h).1, (next_carried m c t f g h).2]
  rfl

set_option maxHeartbeats 4000000 in
/-- The body's obligation: from the buffers as the fetches leave them and the carried accumulators, the body leaves the
    inputs as they were, the accumulators one point further, and the output's buffer untouched before the last point
    and at the result there. -/
theorem body_obligation (hs : Side m) (c : Dev nD) : BodyObligationLoose (dats (F := F) m 0 c) (defs₀ (F := F)) Variants.none () Set.univ := fun t => by
  rw [bigSep_W0, bigSep_W0]
  have hout : iprop(∃ d, owns (c : Thread nD τ) (win0_15.stage (cfg0.slots t 15)) fullShare
      (if k0_cond4 (grid0.coords t) = 1#1 then result m c t else (dats m 0 c).before 15 t d))
      ⊢ (match cfg0.idle 15 (grid0.coords t) with
          | true => match (cfg0.win 15).flush t with
            | false => iprop(∃ d, owns (c : Thread nD τ) ((cfg0.win 15).stage (cfg0.slots t 15)) fullShare ((dats m 0 c).before 15 t d))
            | true => owns (c : Thread nD τ) ((cfg0.win 15).stage (cfg0.slots t 15)) fullShare ((dats m 0 c).after 15 t)
          | false => owns (c : Thread nD τ) ((cfg0.win 15).stage (cfg0.slots t 15)) fullShare ((dats m 0 c).after 15 t) : sProp 𝕄) := by
    have e : cfg0.idle 15 (grid0.coords t) = !(k0_cond4 (grid0.coords t) == 1#1) := rfl
    by_cases h4 : k0_cond4 (grid0.coords t) = 1#1
    · have e' : cfg0.idle 15 (grid0.coords t) = false := by rw [e, h4]; rfl
      rw [e']
      simp only [if_pos h4]
      iintro ⟨%d, H⟩
      rw [after0_15]
      iexact H
    · have e' : cfg0.idle 15 (grid0.coords t) = true := by rw [e]; simpa using h4
      have hf : (cfg0.win 15).flush t = false := by
        have := (flush0_15 t)
        have h9 : t.val ≠ 9 := fun h => h4 ((cond4_iff t).mpr h)
        have hlt : t.val < 10 := t.isLt
        rcases hh : (cfg0.win 15).flush t with _ | _
        · rfl
        · exact absurd (this.mp hh) (by omega)
      rw [e', hf]
      simp only [if_neg h4]
      exact BI.Entails.refl _
  simp only
  rw [show (dats m 0 c).owesAt () t.succ = (dats m 0 c).owesAt () t.castSucc from rfl]
  rw [show (dats m 0 c).Φ t.castSucc = carried m c t.val from rfl, show (dats m 0 c).Φ t.succ = carried m c (t.val + 1) from rfl]
  rw [defs₀_at]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  unfold carried
  icases HΦ with ⟨%f, %g, %hfg, Hf, Hg, Hr⟩
  rw [before0_0, before0_1, before0_2, before0_3, before0_4, before0_5, before0_6, before0_7, before0_8, before0_9, before0_10, before0_11, before0_12, before0_13, before0_14]
  iapply (sound_body (F := F) c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15))
    (Memref.whole cc0_scratch0) (Memref.isWhole_whole _) (Memref.whole cc0_scratch1) (Memref.isWhole_whole _)
    (iblk m c 0 t) (iblk m c 1 t) (iblk m c 2 t) (iblk m c 3 t) (win0_4.fill (grid0.coords t) d4 (iblk m c 4 t)) (win0_5.fill (grid0.coords t) d5 (iblk m c 5 t)) (iblk m c 6 t) (iblk m c 7 t) (iblk m c 8 t) (iblk m c 9 t) (iblk m c 10 t) (iblk m c 11 t) (iblk m c 12 t) (iblk m c 13 t) (iblk m c 14 t)
    ((dats m 0 c).before 15 t d15) f g _ (hs.chk c t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [Hf]; · rw [owns_whole]; iexact Hf
  isplitl [Hg]; · rw [owns_whole]; iexact Hg
  rw [outB_at m hs c t d4 d5 _ f g hfg, (step_at m hs c t d4 d5 f g).1, (step_at m hs c t d4 d5 f g).2,
    (next_carried m c t f g hfg).1, (next_carried m c t f g hfg).2, owns_whole, owns_whole]
  iintro ⟨H0, H1, H2, H3, H4, H5, H6, H7, H8, H9, H10, H11, H12, H13, H14, H15, Hf, Hg⟩
  isplitl [Hf Hg Hr]
  · iexists (accS m c (t.val + 1)), (accV m c (t.val + 1))
    isplitr; · ipureintro; exact fun _ => ⟨rfl, rfl⟩
    isplitl [Hf]; · iexact Hf
    isplitl [Hg]; · iexact Hg
    iexact Hr
  isplitl [Ho]; · iexact Ho
  isplitl [H0]; · rw [after0_0]; iexact H0
  isplitl [H1]; · rw [after0_1]; iexact H1
  isplitl [H2]; · rw [after0_2]; iexact H2
  isplitl [H3]; · rw [after0_3]; iexact H3
  isplitl [H4]
  · iexists d4
    rw [after0_4]
    have e : win0_4.cut (grid0.coords t) (blkS m c t) = iblk m c 4 t := win0_4.cut_fill _ _ _
    change _ ⊢ owns (c : Thread nD τ) (win0_4.stage (cfg0.slots t 4)) fullShare (win0_4.fill (grid0.coords t) d4 (win0_4.cut (grid0.coords t) (blkS m c t)))
    rw [e]; try iexact H4
  isplitl [H5]
  · iexists d5
    rw [after0_5]
    have e : win0_5.cut (grid0.coords t) (blkV m c t) = iblk m c 5 t := win0_5.cut_fill _ _ _
    change _ ⊢ owns (c : Thread nD τ) (win0_5.stage (cfg0.slots t 5)) fullShare (win0_5.fill (grid0.coords t) d5 (win0_5.cut (grid0.coords t) (blkV m c t)))
    rw [e]; try iexact H5
  isplitl [H6]; · rw [after0_6]; iexact H6
  isplitl [H7]; · rw [after0_7]; iexact H7
  isplitl [H8]; · rw [after0_8]; iexact H8
  isplitl [H9]; · rw [after0_9]; iexact H9
  isplitl [H10]; · rw [after0_10]; iexact H10
  isplitl [H11]; · rw [after0_11]; iexact H11
  isplitl [H12]; · rw [after0_12]; iexact H12
  isplitl [H13]; · rw [after0_13]; iexact H13
  isplitl [H14]; · rw [after0_14]; iexact H14
  exact (Laws.exists_intro_trans d15 (BI.Entails.refl _)).trans hout

/-- What the class's invariant says: the scratch at anything and the generator register. -/
theorem ΦA_eq (c : Dev nD) : (Pipeline.ΦA spec0 c : sProp 𝕄)
    = iprop(((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)) ∗ ∃ r, prngReg c r) := by
  unfold Pipeline.ΦA; rw [scopedRest0_eq]

/-- The run, every counter at zero at its end. -/
theorem run_main_quiescent (hs : Side m) : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => body_obligation m hs c) (hshare := fun c => (dats m 0 c).share_full fun _ => rfl)
    (howed := fun _ _ => rfl) (V := V m) (hmain := hmain m Variants.none) (hA := A_eq m)
    (hin := fun c => by
      show (Pipeline.ΦA spec0 c : sProp 𝕄) ⊢ carried m c 0
      rw [ΦA_eq]; unfold carried
      iintro ⟨⟨⟨%f, Hf⟩, ⟨%g, Hg⟩⟩, Hr⟩
      iexists f, g
      isplitr; · ipureintro; exact fun h => absurd rfl h
      isplitl [Hf]; · iexact Hf
      isplitl [Hg]; · iexact Hg
      iexact Hr)
    (hout := fun c => by
      show carried m c (Fin.last cfg0.N).val ⊢ (Pipeline.ΦA spec0 c : sProp 𝕄)
      rw [ΦA_eq]; unfold carried
      iintro ⟨%f, %g, -, Hf, Hg, Hr⟩
      isplitr [Hr]
      · isplitl [Hf]
        · iexists f; iexact Hf
        · iexists g; iexact Hg
      · iexact Hr)
    (hQ' := fun _ h => h)

/-- The run. -/
theorem run_main (hs : Side m) : θ_run defs (onTc (τ := τ) (main (F := F))) (s₀ m ρ) (Pipeline.FramePost cfgs (dats m) 0 (V m)) :=
  (θ_run defs _ _).mono (fun _ h => h.1) (run_main_quiescent m ρ hs)

end Cert.KernelIdeal.Gen
end
-- ==== Proof.Host.lean ====
/-
  What the host operations before the kernel leave in the arrays that its windows read: each array as one term of the
  program's arguments.
-/
module

public import proofs.«01_k».proof.Proof.Run

@[expose] public section

set_option maxRecDepth 16384

noncomputable section

namespace Cert.KernelIdeal.Gen

open Idealize.ShloMosaic Idealize.ShloMosaic.TcCoe Idealize.ShloMosaic.Tactic
open Idealize.ShloMosaic.ValueIdx

variable {F : FTy → Type} [FloatOps F]
variable (m : (ℓ : Loc nD τ sig) → Buf (Elt F) ℓ) (c : Dev nD)

/-- The first row of each block, as words. -/
def starts : IVec S10 32 := muli (iotaInDim S10 32 0) (broadcastInDim S10 ![] bcast_S_S10 (constantI S_ 32 10240#32))

/-- The last row of each block, as words. -/
def ends : IVec S10 32 :=
  subi (minsi (addi starts (broadcastInDim S10 ![] bcast_S_S10 (constantI S_ 32 10240#32)))
    (broadcastInDim S10 ![] bcast_S_S10 (constantI S_ 32 100000#32))) (broadcastInDim S10 ![] bcast_S_S10 (constantI S_ 32 1#32))

/-- Row numbers with the negative ones wrapped, as the column of a lookup. -/
def lookup (s : IVec S10 32) : IVec S10x1 32 :=
  broadcastInDim S10x1 ![0] bcast_S10_S10x1_0 (select (cmpi .slt s (broadcastInDim S10 ![] bcast_S_S10 (constantI S_ 32 0#32)))
    (addi s (broadcastInDim S10 ![] bcast_S_S10 (constantI S_ 32 100000#32))) s)

/-- The row count's array. -/
theorem V_cnt : V m c main_v18 = broadcastInDim S1 ![] bcast_S_S1 (constantI S_ 32 100000#32) := by
  unfold_abbrev_sides
  simp only [hostOps0, hostOps0_1, hostOps0_2, List.flatten_cons, List.flatten_nil, List.append_nil, List.cons_append, List.nil_append]
  after_results

/-- The group of each block's first row. -/
theorem V_first : V m c main_v34 = Host.gather gather_S100000_S10x1_S10_n_0_n_n_0_1_1 (m ((c : Thread nD τ).loc main_arg2)) (lookup starts) := by
  unfold_abbrev_sides
  simp only [hostOps0, hostOps0_1, hostOps0_2, List.flatten_cons, List.flatten_nil, List.append_nil, List.cons_append, List.nil_append]
  after_results
  rfl

/-- The group of each block's last row. -/
theorem V_last : V m c main_v41 = Host.gather gather_S100000_S10x1_S10_n_0_n_n_0_1_1 (m ((c : Thread nD τ).loc main_arg2)) (lookup ends) := by
  unfold_abbrev_sides
  simp only [hostOps0, hostOps0_1, hostOps0_2, List.flatten_cons, List.flatten_nil, List.append_nil, List.cons_append, List.nil_append]
  after_results
  rfl

/-- The groups, padded with zero to whole blocks. -/
theorem V_ids : V m c main_v3 = shapeCast S10x1x10240
    (pad S102400 ![0] ![2400] ![0] (m ((c : Thread nD τ).loc main_arg2)) (constantI S_ 32 0#32) pads_S100000_S102400_024000 h_S_)
    shapeCasts_S102400_S10x1x10240 := by
  unfold_abbrev_sides
  simp only [hostOps0, hostOps0_1, hostOps0_2, List.flatten_cons, List.flatten_nil, List.append_nil, List.cons_append, List.nil_append]
  after_results
  rfl

/-- The vector features, one column per row of the data. -/
theorem V_vec : V m c main_v1 = shapeCast S48x100000
    (transpose S3x16x100000 [2, 1, 0] (m ((c : Thread nD τ).loc main_arg1)) transposes_S100000x16x3_S3x16x100000_2_1_0)
    shapeCasts_S3x16x100000_S48x100000 := by
  unfold_abbrev_sides
  simp only [hostOps0, hostOps0_1, hostOps0_2, List.flatten_cons, List.flatten_nil, List.append_nil, List.cons_append, List.nil_append]
  after_results
  rfl

/-- The rows of a 176-row matrix that meet the vector features, reordered to match them. -/
def permuted (W : Vec F S176x128 .f32) : Vec F S48x128 .f32 :=
  shapeCast S48x128 (transpose S3x16x128 [1, 0, 2]
    (shapeCast S16x3x128 (extractStridedSlice S48x128 ![128, 0] W slices_S176x128_S48x128_128_0) shapeCasts_S48x128_S16x3x128)
    transposes_S16x3x128_S3x16x128_1_0_2) shapeCasts_S3x16x128_S48x128

/-- The gate's first matrix, the rows that meet the scalar features. -/
theorem V_w1s : V m c main_v5 = truncf .bf16 (extractStridedSlice S128x128 ![0, 0] (m ((c : Thread nD τ).loc main_arg3)) slices_S176x128_S128x128_0_0) bitsLt_bf16_f32 := by
  unfold_abbrev_sides
  simp only [hostOps0, hostOps0_1, hostOps0_2, List.flatten_cons, List.flatten_nil, List.append_nil, List.cons_append, List.nil_append]
  after_results

/-- The gate's first matrix, the rows that meet the vector features. -/
theorem V_w1v : V m c main_v10 = truncf .bf16 (permuted (F := F) (m ((c : Thread nD τ).loc main_arg3))) bitsLt_bf16_f32 := by
  unfold_abbrev_sides
  simp only [hostOps0, hostOps0_1, hostOps0_2, List.flatten_cons, List.flatten_nil, List.append_nil, List.cons_append, List.nil_append]
  after_results
  rfl

/-- The gate's second matrix. -/
theorem V_w2 : V m c main_v11 = truncf .bf16 (m ((c : Thread nD τ).loc main_arg5)) bitsLt_bf16_f32 := by
  unfold_abbrev_sides
  simp only [hostOps0, hostOps0_1, hostOps0_2, List.flatten_cons, List.flatten_nil, List.append_nil, List.cons_append, List.nil_append]
  after_results

/-- The last layers' first matrix, its rows in the order of the accumulators. -/
theorem V_mw1 : V m c main_v17 = concatenate S176x128 0
    [⟨S128x128, extractStridedSlice S128x128 ![0, 0] (m ((c : Thread nD τ).loc main_arg7)) slices_S176x128_S128x128_0_0⟩,
     ⟨S48x128, permuted (F := F) (m ((c : Thread nD τ).loc main_arg7))⟩] concatenates_S128x128_S48x128_S176x128_d0 := by
  unfold_abbrev_sides
  simp only [hostOps0, hostOps0_1, hostOps0_2, List.flatten_cons, List.flatten_nil, List.append_nil, List.cons_append, List.nil_append]
  after_results
  rfl

/-- The gate's first bias. -/
theorem V_b1 : V m c main_v42 = shapeCast S1x128 (m ((c : Thread nD τ).loc main_arg4)) shapeCasts_S128_S1x128 := by
  unfold_abbrev_sides
  simp only [hostOps0, hostOps0_1, hostOps0_2, List.flatten_cons, List.flatten_nil, List.append_nil, List.cons_append, List.nil_append]
  after_results
  rfl

/-- The gate's second bias. -/
theorem V_b2 : V m c main_v43 = shapeCast S1x1 (m ((c : Thread nD τ).loc main_arg6)) shapeCasts_S1_S1x1 := by
  unfold_abbrev_sides
  simp only [hostOps0, hostOps0_1, hostOps0_2, List.flatten_cons, List.flatten_nil, List.append_nil, List.cons_append, List.nil_append]
  after_results
  rfl

/-- The last layers' first bias. -/
theorem V_mb1 : V m c main_v44 = shapeCast S1x128 (m ((c : Thread nD τ).loc main_arg8)) shapeCasts_S128_S1x128 := by
  unfold_abbrev_sides
  simp only [hostOps0, hostOps0_1, hostOps0_2, List.flatten_cons, List.flatten_nil, List.append_nil, List.cons_append, List.nil_append]
  after_results
  rfl

/-- The last layers' second bias. -/
theorem V_mb2 : V m c main_v45 = shapeCast S1x128 (m ((c : Thread nD τ).loc main_arg10)) shapeCasts_S128_S1x128 := by
  unfold_abbrev_sides
  simp only [hostOps0, hostOps0_1, hostOps0_2, List.flatten_cons, List.flatten_nil, List.append_nil, List.cons_append, List.nil_append]
  after_results
  rfl

end Cert.KernelIdeal.Gen

end
-- ==== Proof.Blocks.lean ====
/-
  The blocks that the kernel's windows read at a point, element by element, and the words the body reads: the row count,
  and the groups of a block's first and last row, which pass the body's check when every group lies from 0 to 511.
-/
module

public import proofs.«01_k».proof.Proof.Host
public import Idealize.ShloMosaic.Lib.Pipeline.ValueKit
public import Idealize.ShloMosaic.Lib.StableHlo.Predicate

@[expose] public section

set_option maxRecDepth 16384

noncomputable section

namespace Cert.KernelIdeal.Gen

open Idealize.ShloMosaic hiding ix1 ix2 ix3
open Idealize.ShloMosaic.TcCoe Idealize.ShloMosaic.Tactic
open Idealize.ShloMosaic.ValueIdx

variable {F : FTy → Type} [FloatOps F]
variable (m : (ℓ : Loc nD τ sig) → Buf (Elt F) ℓ) (c : Dev nD) (t : Fin cfg0.N)

/-- The indices of the windows that move. -/
theorem idx_moving : ∀ t : Fin cfg0.N, win0_3.index t = ![t.val, 0, 0] ∧ win0_4.index t = ![t.val, 0] ∧ win0_5.index t = ![0, t.val] := by
  decide +kernel

/-- The indices of the windows that stay. -/
theorem idx_still : ∀ t : Fin cfg0.N, win0_0.index t = ![0] ∧ win0_1.index t = ![0] ∧ win0_2.index t = ![0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0] ∧ win0_15.index t = ![0, 0] := by
  decide +kernel

/-- The row count's block is its array. -/
theorem iblk_0 : iblk m c 0 t = V m c main_v18 := by
  funext j; unfold iblk; rw [View.read_apply]; blk_ext [idx_still t]
/-- The first groups' block is its array. -/
theorem iblk_1 : iblk m c 1 t = V m c main_v34 := by
  funext j; unfold iblk; rw [View.read_apply]; blk_ext [idx_still t]
/-- The last groups' block is its array. -/
theorem iblk_2 : iblk m c 2 t = V m c main_v41 := by
  funext j; unfold iblk; rw [View.read_apply]; blk_ext [idx_still t]
/-- The gate's first scalar matrix's block is its array. -/
theorem iblk_6 : iblk m c 6 t = V m c main_v5 := by
  funext j; unfold iblk; rw [View.read_apply]; blk_ext [idx_still t]
/-- The gate's first vector matrix's block is its array. -/
theorem iblk_7 : iblk m c 7 t = V m c main_v10 := by
  funext j; unfold iblk; rw [View.read_apply]; blk_ext [idx_still t]
/-- The gate's first bias's block is its array. -/
theorem iblk_8 : iblk m c 8 t = V m c main_v42 := by
  funext j; unfold iblk; rw [View.read_apply]; blk_ext [idx_still t]
/-- The gate's second matrix's block is its array. -/
theorem iblk_9 : iblk m c 9 t = V m c main_v11 := by
  funext j; unfold iblk; rw [View.read_apply]; blk_ext [idx_still t]
/-- The gate's second bias's block is its array. -/
theorem iblk_10 : iblk m c 10 t = V m c main_v43 := by
  funext j; unfold iblk; rw [View.read_apply]; blk_ext [idx_still t]
/-- The last layers' first matrix's block is its array. -/
theorem iblk_11 : iblk m c 11 t = V m c main_v17 := by
  funext j; unfold iblk; rw [View.read_apply]; blk_ext [idx_still t]
/-- The last layers' first bias's block is its array. -/
theorem iblk_12 : iblk m c 12 t = V m c main_v44 := by
  funext j; unfold iblk; rw [View.read_apply]; blk_ext [idx_still t]
/-- The last layers' second matrix's block is its array. -/
theorem iblk_13 : iblk m c 13 t = V m c main_arg9 := by
  funext j; unfold iblk; rw [View.read_apply]; blk_ext [idx_still t]
/-- The last layers' second bias's block is its array. -/
theorem iblk_14 : iblk m c 14 t = V m c main_v45 := by
  funext j; unfold iblk; rw [View.read_apply]; blk_ext [idx_still t]

/-- The groups' block at a point is the point's row of its array. -/
theorem iblk_3 (r : Fin 10240) : iblk m c 3 t (ix3 (0 : Fin 1) (0 : Fin 1) r) = V m c main_v3 (ix3 (⟨t.val, t.isLt⟩ : Fin 10) (0 : Fin 1) r) := by
  unfold iblk; rw [View.read_apply]; blk_ext [idx_moving t]

/-- The scalar features' block, on the rows inside the array. -/
theorem blkS_apply (r : Fin 10240) (d : Fin 128) (h : t.val * 10240 + r.val < 100000) :
    blkS m c t (ix2 r d) = m ((c : Thread nD τ).loc main_arg0) (ix2 (⟨t.val * 10240 + r.val, h⟩ : Fin 100000) d) := by
  unfold blkS Pipeline.Window.fill
  rw [dif_pos (moved_4 t r d (by rw [coords_val]; exact h)), ← V_main_arg0 m c]
  unfold iblk; rw [View.read_apply]; blk_ext [idx_moving t]

/-- The vector features' block, on the columns inside the array. -/
theorem blkV_apply (k : Fin 48) (r : Fin 10240) (h : t.val * 10240 + r.val < 100000) :
    blkV m c t (ix2 k r) = V m c main_v1 (ix2 k (⟨t.val * 10240 + r.val, h⟩ : Fin 100000)) := by
  unfold blkV Pipeline.Window.fill
  rw [dif_pos (moved_5 t k r (by rw [coords_val]; exact h))]
  unfold iblk; rw [View.read_apply]; blk_ext [idx_moving t]

/-! ## The words -/

/-- A buffer of one word reads as its word. -/
theorem word1_eq (x : Vec F S1 .i32) : word1 (F := F) x = x (ix1 (0 : Fin 1)) := by
  unfold word1 View.ld
  refine congrArg x (funext fun a => Fin.ext ?_)
  match a with
  | ⟨0, _⟩ => rfl

/-- A buffer of ten words reads, at a point, as the point's word. -/
theorem word10_eq (x : Vec F S10 .i32) (t : Fin cfg0.N) : word10 (F := F) x (grid0.coords t) = x (ix1 (⟨t.val, t.isLt⟩ : Fin 10)) := by
  have e : ∀ t : Fin cfg0.N, k0_off1 (grid0.coords t) 0 = t.val := by decide +kernel
  unfold word10 View.ld
  refine congrArg x (funext fun a => Fin.ext ?_)
  match a with
  | ⟨0, _⟩ =>
    show k0_off1 (grid0.coords t) 0 + 1 * 0 = t.val
    rw [e]; omega

/-- The rows looked up for the blocks' first groups. -/
theorem starts_at : ∀ p : Fin 10, (lookup starts (StableHlo.Predicate.ixP p)).toInt.toNat = p.val * 10240 := by decide +kernel

/-- The rows looked up for the blocks' last groups. -/
theorem ends_at : ∀ p : Fin 10, (lookup ends (StableHlo.Predicate.ixP p)).toInt.toNat = min (p.val * 10240 + 10240) 100000 - 1 := by decide +kernel

/-- The body's row count. -/
theorem cnt_eq : word1 (F := F) (iblk m c 0 t) = 100000#32 := by
  rw [iblk_0, word1_eq, V_cnt]; rfl

/-- The first group the body reads is the group of the block's first row. -/
theorem first_eq : word10 (F := F) (iblk m c 1 t) (grid0.coords t)
    = m ((c : Thread nD τ).loc main_arg2) (ix1 (⟨t.val * 10240, by have := t.isLt; change t.val < 10 at this; omega⟩ : Fin 100000)) := by
  rw [iblk_1, word10_eq, V_first]
  refine (StableHlo.Predicate.gather_take gather_S100000_S10x1_S10_n_0_n_n_0_1_1 rfl rfl rfl rfl _ (lookup starts) (⟨t.val, t.isLt⟩ : Fin 10) (by decide)).trans ?_
  refine congrArg _ (funext fun a => Fin.ext ?_)
  match a with
  | ⟨0, _⟩ =>
    show min (lookup starts (StableHlo.Predicate.ixP (⟨t.val, t.isLt⟩ : Fin 10))).toInt.toNat (100000 - 1) = t.val * 10240
    rw [starts_at]
    have := t.isLt; change t.val < 10 at this
    show min (t.val * 10240) (100000 - 1) = _
    omega

/-- The last group the body reads is the group of the block's last row inside the array. -/
theorem last_eq : word10 (F := F) (iblk m c 2 t) (grid0.coords t)
    = m ((c : Thread nD τ).loc main_arg2) (ix1 (⟨min (t.val * 10240 + 10240) 100000 - 1, by omega⟩ : Fin 100000)) := by
  rw [iblk_2, word10_eq, V_last]
  refine (StableHlo.Predicate.gather_take gather_S100000_S10x1_S10_n_0_n_n_0_1_1 rfl rfl rfl rfl _ (lookup ends) (⟨t.val, t.isLt⟩ : Fin 10) (by decide)).trans ?_
  refine congrArg _ (funext fun a => Fin.ext ?_)
  match a with
  | ⟨0, _⟩ =>
    show min (lookup ends (StableHlo.Predicate.ixP (⟨t.val, t.isLt⟩ : Fin 10))).toInt.toNat (100000 - 1) = min (t.val * 10240 + 10240) 100000 - 1
    rw [ends_at]
    show min (min (t.val * 10240 + 10240) 100000 - 1) (100000 - 1) = _
    omega

/-- Every group lies from 0 to 511. -/
def InRange (x : IVec S100000 32) : Prop := ∀ n : Fin 100000, (x (ix1 n)).toNat < 512

/-- The start of the window of 64 groups: the block's first group, moved down to fit. -/
theorem minsi_nat (g : BitVec 32) (h : g.toNat < 512) : (Scalar.minsi g 448#32).toNat = min g.toNat 448 := by
  have hk : ∀ n : Fin 512, (Scalar.minsi (BitVec.ofNat 32 n.val) 448#32).toNat = min n.val 448 := by decide +kernel
  have := hk ⟨g.toNat, h⟩
  rwa [BitVec.ofNat_toNat, BitVec.setWidth_eq] at this

/-- The body's check holds of any first group from 0 to 511. -/
theorem chk_of (g e : BitVec 32) (h : g.toNat < 512) : k0_chk1 g e := by
  have h1 := minsi_nat g h
  refine ⟨fun _ a => ?_, fun _ a => ?_⟩
  · match a with
    | ⟨0, _⟩ => show (Scalar.minsi g 448#32).toNat + 64 ≤ 512; omega
    | ⟨1, _⟩ => show 0 + 128 ≤ 128; omega
  · match a with
    | ⟨0, _⟩ => show (Scalar.minsi g 448#32).toNat + 64 ≤ 512; omega
    | ⟨1, _⟩ => show 0 + 49 ≤ 49; omega

/-- What the run needs of the words the body reads, from the groups' range. -/
theorem side_of (h : ∀ c : Dev nD, InRange (m ((c : Thread nD τ).loc main_arg2))) : Side m :=
  ⟨fun c t => cnt_eq m c t, fun c t => chk_of _ _ (by rw [first_eq]; exact h c _)⟩

end Cert.KernelIdeal.Gen

end
-- ==== Proof.Frames.lean ====
/-
  The kernel's run ends with every semaphore counter at zero, at any float values.
-/
module

public import proofs.«01_k».proof.Proof.Main
public import proofs.«01_k».proof.Proof.Blocks

@[expose] public section

set_option maxRecDepth 16384

noncomputable section

namespace Cert.KernelIdeal.Gen

open Idealize.ShloMosaic Idealize.ShloMosaic.TcCoe Idealize.SL.Sem

variable {F : FTy → Type} [FloatOps F]
variable (m : (ℓ : Loc nD τ sig) → Buf (Elt F) ℓ) (ρ : Dev nD → PrngReg)

/-- Every semaphore counter ends at zero. -/
theorem counters (hs : Side m) : θ_run defs (onTc (τ := τ) (main (F := F))) (s₀ m ρ) (fun r => r.2.sem = fun _ => 0) :=
  (θ_run defs _ _).mono (fun _ h => h.2) (run_main_quiescent m ρ hs)

end Cert.KernelIdeal.Gen

end
-- ==== Proof.KFrames.lean ====
/-
  The kernel's run ends with every semaphore counter at zero, at any float values.
-/
module

public import proofs.«01_k».proof.Proof.KMain
public import proofs.«01_k».proof.Proof.KBlocks

@[expose] public section

set_option maxRecDepth 16384

noncomputable section

namespace Cert.Kernel.Gen

open Idealize.ShloMosaic Idealize.ShloMosaic.TcCoe Idealize.SL.Sem

variable {F : FTy → Type} [FloatOps F]
variable (m : (ℓ : Loc nD τ sig) → Buf (Elt F) ℓ) (ρ : Dev nD → PrngReg)

/-- Every semaphore counter ends at zero. -/
theorem counters (hs : Side m) : θ_run defs (onTc (τ := τ) (main (F := F))) (s₀ m ρ) (fun r => r.2.sem = fun _ => 0) :=
  (θ_run defs _ _).mono (fun _ h => h.2) (run_main_quiescent m ρ hs)

end Cert.Kernel.Gen

end
-- ==== Proof.Claims.lean ====
/-
  The claims that say a program stops: what each leaves in its argument buffers and in its semaphore counters.
-/
module

public import proofs.«01_k».proof.Defs
public import proofs.«01_k».proof.Proof.Ids
public import proofs.«01_k».proof.Proof.Frames
public import proofs.«01_k».proof.Proof.KFrames
public import proofs.«01_k».proof.Proof.Gen.ReferenceIdeal.Run

@[expose] public section

set_option maxRecDepth 16384

noncomputable section

namespace Cert.Proof

open Idealize.ShloMosaic Idealize.ShloMosaic.TcCoe Idealize.SL.Sem

/-- What the first precondition's program needs of the shapes it names. -/
instance range_facts : Cert.Pre_ids_in_range.Facts where
  bcast_S_S100000 := by decide
  reducesTo_S100000_S_d0 := by decide
  h_S_ := by decide

/-- The kernel over machine words stops with its arguments as they were and every counter at zero. -/
theorem frame_k : Cert.quiescent_Kernel := fun m ρ h =>
  have hs : Cert.Kernel.Gen.Side m := Cert.Kernel.Gen.side_of m fun c n => in_range_of _ _ _ _ _ _ _ _ _ _ _ (h c) n
  θ_run_and (Cert.Kernel.Gen.frame_of m ρ (Cert.Kernel.Gen.dats m) (Cert.Kernel.Gen.A_eq m) (Cert.Kernel.Gen.run_main m ρ hs))
    (Cert.Kernel.Gen.counters m ρ hs)

/-- The kernel over the extended reals stops with its arguments as they were and every counter at zero. -/
theorem frame_k_ideal : Cert.quiescent_KernelIdeal := fun m ρ h =>
  have hs : Cert.KernelIdeal.Gen.Side m := Cert.KernelIdeal.Gen.side_of m fun c n => in_range_of _ _ _ _ _ _ _ _ _ _ _ (h c) n
  θ_run_and (Cert.KernelIdeal.Gen.frame_of m ρ (Cert.KernelIdeal.Gen.dats m) (Cert.KernelIdeal.Gen.A_eq m)
    (Cert.KernelIdeal.Gen.run_main m ρ hs)) (Cert.KernelIdeal.Gen.counters m ρ hs)

/-- The reference stops with its arguments as they were; it has no semaphore. -/
theorem frame_r : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Sorted.lean ====
/-
  What the second precondition says of the group ids: every id lies from 0 to 511, and no id is less than the one before it.
-/
module

public import proofs.«01_k».proof.Proof.Ids
public import proofs.«01_k».proof.Pre_ids_sorted
public import Idealize.ShloMosaic.Lib.ReduceAll
public import Idealize.ShloMosaic.Lib.Affine
public import Idealize.ShloMosaic.Lib.Routing.Ops

@[expose] public section

set_option maxRecDepth 16384

noncomputable section

namespace Cert.Proof

open Idealize.ShloMosaic
open Idealize.ShloMosaic.ValueIdx

variable {F : FTy → Type} [FloatOps F]

/-- The second precondition: every group id lies from 0 to 511 and the ids never decrease. -/
theorem sorted_of [Cert.Pre_ids_sorted.Facts] (a0 : FVec F Pre_ids_sorted.S100000x128 .f32) (a1 : FVec F Pre_ids_sorted.S100000x16x3 .f32)
    (a2 : IVec Pre_ids_sorted.S100000 32) (a3 : FVec F Pre_ids_sorted.S176x128 .f32) (a4 : FVec F Pre_ids_sorted.S128 .f32)
    (a5 : FVec F Pre_ids_sorted.S128x1 .f32) (a6 : FVec F Pre_ids_sorted.S1 .f32) (a7 : FVec F Pre_ids_sorted.S176x128 .f32)
    (a8 : FVec F Pre_ids_sorted.S128 .f32) (a9 : FVec F Pre_ids_sorted.S128x128 .f32) (a10 : FVec F Pre_ids_sorted.S128 .f32)
    (h : Cert.Pre_ids_sorted.fn (F := F) a0 a1 a2 a3 a4 a5 a6 a7 a8 a9 a10 = fun _ => 1#1) :
    (∀ n : Fin 100000, (a2 (ix1 n)).toNat < 512) ∧ ∀ n n' : Fin 100000, n ≤ n' → (a2 (ix1 n)).toNat ≤ (a2 (ix1 n')).toNat := by
  have h0 := congrFun h (fun a => a.elim0)
  dsimp only [Cert.Pre_ids_sorted.fn] at h0
  obtain ⟨hr, hs⟩ := IntOp.andi_eq_one.mp h0
  have hrange : ∀ n : Fin 100000, (a2 (ix1 n)).toNat < 512 := fun n => by
    obtain ⟨ha, hb⟩ := IntOp.andi_eq_one.mp (Host.reduce_andi_all _ _ _ _ _ hr (ix1 n))
    exact word_lt _ ha hb
  refine ⟨hrange, ?_⟩
  have hstep : ∀ (n : ℕ) (hn : n + 1 < 100000), (a2 (ix1 (⟨n, by omega⟩ : Fin 100000))).toNat ≤ (a2 (ix1 (⟨n + 1, hn⟩ : Fin 100000))).toNat := fun n hn => by
    have h1 := Host.reduce_andi_all _ _ _ _ _ hs (ix1 (⟨n, by omega⟩ : Fin 99999))
    have h2 : IntOp.cmpi .sle (extractStridedSlice Pre_ids_sorted.S99999 ![0] a2 Pre_ids_sorted.Facts.slices_S100000_S99999_0 (ix1 (⟨n, by omega⟩ : Fin 99999)))
        (extractStridedSlice Pre_ids_sorted.S99999 ![1] a2 Pre_ids_sorted.Facts.slices_S100000_S99999_1 (ix1 (⟨n, by omega⟩ : Fin 99999))) = 1#1 := h1
    rw [show extractStridedSlice Pre_ids_sorted.S99999 ![0] a2 Pre_ids_sorted.Facts.slices_S100000_S99999_0 (ix1 (⟨n, by omega⟩ : Fin 99999)) = _ from
          Routing.slice1 0 a2 _ _ (by show 0 + n < 100000; omega),
      show extractStridedSlice Pre_ids_sorted.S99999 ![1] a2 Pre_ids_sorted.Facts.slices_S100000_S99999_1 (ix1 (⟨n, by omega⟩ : Fin 99999)) = _ from
          Routing.slice1 1 a2 _ _ (by show 1 + n < 100000; omega)] at h2
    have h3 := word_le _ _ (hrange _) (hrange _) h2
    have e0 : (⟨0 + n, by omega⟩ : Fin 100000) = ⟨n, by omega⟩ := Fin.ext (Nat.zero_add n)
    have e1 : (⟨1 + n, by omega⟩ : Fin 100000) = ⟨n + 1, hn⟩ := Fin.ext (Nat.add_comm 1 n)
    rw [e0, e1] at h3
    exact h3
  have hmono : ∀ (k n : ℕ) (hn : n + k < 100000), (a2 (ix1 (⟨n, by omega⟩ : Fin 100000))).toNat ≤ (a2 (ix1 (⟨n + k, hn⟩ : Fin 100000))).toNat := by
    intro k
    induction k with
    | zero => intro n hn; exact le_refl _
    | succ k ih => intro n hn; exact (ih n (by omega)).trans (hstep (n + k) (by omega))
  intro n n' hle
  have hnn : n.val ≤ n'.val := hle
  have := hmono (n'.val - n.val) n.val (by have := n'.isLt; omega)
  have e : (⟨n.val + (n'.val - n.val), by have := n'.isLt; omega⟩ : Fin 100000) = n' := Fin.ext (by show n.val + (n'.val - n.val) = n'.val; omega)
  rw [e] at this
  exact this

end Cert.Proof

end
-- ==== Proof.Pieces.lean ====
/-
  The kernel's pieces over the extended reals, read entry by entry: a block's hidden layer, its weights, its one-hot rows,
  and the products the accumulators take.
-/
module

public import proofs.«01_k».proof.Proof.Masks
public import Idealize.ShloMosaic.Lib.ValueIdx
public import Idealize.ShloMosaic.Lib.Pointwise.Contract
public import Idealize.ShloMosaic.Lib.MatmulPlain
public import Idealize.ShloMosaic.Lib.IdealHost
public import Idealize.ShloMosaic.Lib.ValueLayout

@[expose] public section

set_option maxRecDepth 16384

noncomputable section

namespace Cert.Proof

open Idealize.ShloMosaic

/-- The slope below zero. -/
def leak : EReal := FloatOps.ofBits (F := Ideal) .f32 0x3C23D70A#32

/-- A value where it is not negative, and the slope times it where it is. -/
def leaky (z : EReal) : EReal :=
  if FloatOps.cmpf (F := Ideal) (φ := .f32) .oge z (FloatOps.ofBits (F := Ideal) .f32 0x00000000#32) = 1#1 then z else leak * z

end Cert.Proof

namespace Cert.KernelIdeal.Gen

open Idealize.ShloMosaic hiding ix1 ix2 ix3
open Idealize.ShloMosaic.TcCoe Idealize.ShloMosaic.Tactic
open Idealize.ShloMosaic.ValueIdx
open Cert.Proof (leak leaky)

/-- Two tables put one under the other, read in the upper one. -/
theorem stack_upper {α : Type} {A B C N : ℕ} (x : (⟨2, ![A, N]⟩ : Shape).Idx → α) (y : (⟨2, ![B, N]⟩ : Shape).Idx → α)
    (h : Shape.Concatenates [(⟨2, ![A, N]⟩ : Shape), ⟨2, ![B, N]⟩] ⟨2, ![C, N]⟩ 0) (k : Fin A) (c : Fin C) (hc : c.val = k.val) (r : Fin N) :
    concatenate (⟨2, ![C, N]⟩ : Shape) 0 [⟨_, x⟩, ⟨_, y⟩] h (ix2 c r) = x (ix2 k r) :=
  concatenate_pair_apply_left 0 x y h (ix2 c r) rfl (ix2 k r) fun b => by
    match b with
    | ⟨0, _⟩ => exact hc.symm
    | ⟨1, _⟩ => rfl

/-- Two tables put one under the other, read in the lower one. -/
theorem stack_lower {α : Type} {A B C N : ℕ} (x : (⟨2, ![A, N]⟩ : Shape).Idx → α) (y : (⟨2, ![B, N]⟩ : Shape).Idx → α)
    (h : Shape.Concatenates [(⟨2, ![A, N]⟩ : Shape), ⟨2, ![B, N]⟩] ⟨2, ![C, N]⟩ 0) (k : Fin B) (c : Fin C) (hc : k.val + A = c.val) (r : Fin N) :
    concatenate (⟨2, ![C, N]⟩ : Shape) 0 [⟨_, x⟩, ⟨_, y⟩] h (ix2 c r) = y (ix2 k r) :=
  concatenate_pair_apply_right 0 x y h (ix2 c r) rfl rfl (ix2 k r) (fun b hb => by
    match b with
    | ⟨0, _⟩ => exact absurd rfl hb
    | ⟨1, _⟩ => rfl) hc

/-- Two tables put side by side, read in the left one. -/
theorem beside_left {α : Type} {A B C N : ℕ} (x : (⟨2, ![N, A]⟩ : Shape).Idx → α) (y : (⟨2, ![N, B]⟩ : Shape).Idx → α)
    (h : Shape.Concatenates [(⟨2, ![N, A]⟩ : Shape), ⟨2, ![N, B]⟩] ⟨2, ![N, C]⟩ 1) (k : Fin A) (c : Fin C) (hc : c.val = k.val) (r : Fin N) :
    concatenate (⟨2, ![N, C]⟩ : Shape) 1 [⟨_, x⟩, ⟨_, y⟩] h (ix2 r c) = x (ix2 r k) :=
  concatenate_pair_apply_left 1 x y h (ix2 r c) rfl (ix2 r k) fun b => by
    match b with
    | ⟨0, _⟩ => rfl
    | ⟨1, _⟩ => exact hc.symm

/-- Two tables put side by side, read in the right one. -/
theorem beside_right {α : Type} {A B C N : ℕ} (x : (⟨2, ![N, A]⟩ : Shape).Idx → α) (y : (⟨2, ![N, B]⟩ : Shape).Idx → α)
    (h : Shape.Concatenates [(⟨2, ![N, A]⟩ : Shape), ⟨2, ![N, B]⟩] ⟨2, ![N, C]⟩ 1) (k : Fin B) (c : Fin C) (hc : k.val + A = c.val) (r : Fin N) :
    concatenate (⟨2, ![N, C]⟩ : Shape) 1 [⟨_, x⟩, ⟨_, y⟩] h (ix2 r c) = y (ix2 r k) :=
  concatenate_pair_apply_right 1 x y h (ix2 r c) rfl rfl (ix2 r k) (fun b hb => by
    match b with
    | ⟨0, _⟩ => rfl
    | ⟨1, _⟩ => exact absurd rfl hb) hc

/-- The zero. -/
theorem zero32 : (Scalar.ofBits .f32 0x00000000#32 : Ideal .f32) = (0 : EReal) := Ideal.ofBits_zero_f32
/-- The narrow zero. -/
theorem zero16 : (Scalar.ofBits .bf16 0x0000#16 : Ideal .bf16) = (0 : EReal) := Ideal.ofBits_zero_bf16
/-- The narrow one. -/
theorem one16 : (Scalar.ofBits .bf16 0x3F80#16 : Ideal .bf16) = (1 : EReal) := Ideal.ofBits_one_bf16

/-- The scalar features' block: the row inside the array, zero past it. -/
theorem p5 (i : grid0.Coords) (X : Vec Ideal S10240x128 .f32) (r : Fin 10240) (d : Fin 128) :
    k0_pay5 (F := Ideal) i 100000#32 X (ix2 r d) = if (i 0).val * 10240 + r.val < 100000 then X (ix2 r d) else (0 : EReal) := by
  rw [pay5_apply, zero16]; rfl

/-- The vector features' block: the column inside the array, zero past it. -/
theorem p7 (i : grid0.Coords) (X : Vec Ideal S48x10240 .f32) (k : Fin 48) (r : Fin 10240) :
    k0_pay7 (F := Ideal) i 100000#32 X (ix2 k r) = if (i 0).val * 10240 + r.val < 100000 then X (ix2 k r) else (0 : EReal) := by
  rw [pay7_apply, zero16]; rfl

/-- The vector features' block with its row of ones: a feature's row. -/
theorem p8_feature (i : grid0.Coords) (X : Vec Ideal S48x10240 .f32) (k : Fin 48) (k' : Fin 49) (hk : k'.val = k.val) (r : Fin 10240) :
    k0_pay8 (F := Ideal) i 100000#32 X (ix2 k' r)
      = if (i 0).val * 10240 + r.val < 100000 then X (ix2 k r) else (0 : EReal) := by
  unfold k0_pay8
  exact (stack_upper (C := 49) _ _ _ k k' hk r).trans (p7 i X k r)

/-- The vector features' block with its row of ones: the ones. -/
theorem p8_one (i : grid0.Coords) (X : Vec Ideal S48x10240 .f32) (r : Fin 10240) :
    k0_pay8 (F := Ideal) i 100000#32 X (ix2 (48 : Fin 49) r)
      = if (i 0).val * 10240 + r.val < 100000 then (1 : EReal) else 0 := by
  unfold k0_pay8
  refine (stack_lower _ _ _ (0 : Fin 1) _ rfl r).trans ?_
  rw [select_apply, pay6_apply, broadcast_apply, broadcast_apply, one16, zero16]
  split <;> rfl

/-! ## The products -/

section Products
variable {φ₁ φ₂ : FTy} (prec : Option ContractPrecision)

/-- A plain product into zeros. -/
theorem plain_zero {M K N : ℕ} (d : DotDims ⟨2, ![M, K]⟩ ⟨2, ![K, N]⟩ ⟨2, ![M, N]⟩) (hd : d = DotDims.plain M K N)
    (x : FVec Ideal ⟨2, ![M, K]⟩ φ₁) (y : FVec Ideal ⟨2, ![K, N]⟩ φ₂) (r : Fin M) (c : Fin N) :
    matmul (F := Ideal) d prec x y (constant ⟨2, ![M, N]⟩ .f32 0x00000000#32) (ix2 r c) = ∑ k : Fin K, (x (ix2 r k) * y (ix2 k c) : EReal) := by
  subst hd
  refine (Ideal.matmul_plain_apply prec x y _ r c).trans ?_
  refine (congrArg (· + ∑ k : Fin K, (x (ix2 r k) * y (ix2 k c) : EReal)) (show constant (F := Ideal) (⟨2, ![M, N]⟩ : Shape) .f32 0x00000000#32 (ix2 r c) = (0 : EReal) from zero32)).trans (zero_add _)

/-- A product with the right factor's rows contracted, into zeros. -/
theorem rows_zero {M K N : ℕ} (d : DotDims ⟨2, ![M, K]⟩ ⟨2, ![N, K]⟩ ⟨2, ![M, N]⟩) (hd : d = DotDims.transposedRhs M K N)
    (x : FVec Ideal ⟨2, ![M, K]⟩ φ₁) (y : FVec Ideal ⟨2, ![N, K]⟩ φ₂) (r : Fin M) (c : Fin N) :
    matmul (F := Ideal) d prec x y (constant ⟨2, ![M, N]⟩ .f32 0x00000000#32) (ix2 r c) = ∑ k : Fin K, (x (ix2 r k) * y (ix2 c k) : EReal) := by
  subst hd
  refine (Ideal.matmul_transposedRhs_apply prec x y _ r c).trans ?_
  refine (congrArg (· + ∑ k : Fin K, (x (ix2 r k) * y (ix2 c k) : EReal)) (show constant (F := Ideal) (⟨2, ![M, N]⟩ : Shape) .f32 0x00000000#32 (ix2 r c) = (0 : EReal) from zero32)).trans (zero_add _)

/-- The vector features' part of the hidden layer, into zeros. -/
theorem vec_zero (x : FVec Ideal S48x10240 φ₁) (y : FVec Ideal S48x128 φ₂) (r : Fin 10240) (c : Fin 128) :
    matmul (F := Ideal) dot_S48x10240_S48x128_S10240x128_0_0_1_1_n_n prec x y (constant S10240x128 .f32 0x00000000#32) (ix2 r c)
      = ∑ k : Fin 48, (x (ix2 k r) * y (ix2 k c) : EReal) := by
  refine (Ideal.matmul_apply₁_of dot_S48x10240_S48x128_S10240x128_0_0_1_1_n_n rfl rfl x y _ (ix2 r c) (fun k => ix2 k r) (fun k => ix2 k c)
    (fun k => by
      funext a
      match a with
      | ⟨0, _⟩ => rfl
      | ⟨1, _⟩ => rfl) (fun k => by
      funext a
      match a with
      | ⟨0, _⟩ => rfl
      | ⟨1, _⟩ => rfl)).trans ?_
  refine (congrArg (· + ∑ k : Fin 48, (x (ix2 k r) * y (ix2 k c) : EReal)) (show constant (F := Ideal) S10240x128 .f32 0x00000000#32 (ix2 r c) = (0 : EReal) from zero32)).trans (zero_add _)

/-- The second layer of the weights, one row of values, into zeros. -/
theorem gate_zero (x : FVec Ideal S128x1 φ₁) (y : FVec Ideal S10240x128 φ₂) (r : Fin 10240) :
    matmul (F := Ideal) dot_S128x1_S10240x128_S1x10240_0_1_1_0_n_n prec x y (constant S1x10240 .f32 0x00000000#32) (ix2 (0 : Fin 1) r)
      = ∑ k : Fin 128, (x (ix2 k (0 : Fin 1)) * y (ix2 r k) : EReal) := by
  refine (Ideal.matmul_apply₁_of dot_S128x1_S10240x128_S1x10240_0_1_1_0_n_n rfl rfl x y _ (ix2 (0 : Fin 1) r) (fun k => ix2 k (0 : Fin 1)) (fun k => ix2 r k)
    (fun k => by
      funext a
      match a with
      | ⟨0, _⟩ => rfl
      | ⟨1, _⟩ => rfl) (fun k => by
      funext a
      match a with
      | ⟨0, _⟩ => rfl
      | ⟨1, _⟩ => rfl)).trans ?_
  refine (congrArg (· + ∑ k : Fin 128, (x (ix2 k (0 : Fin 1)) * y (ix2 r k) : EReal)) (show constant (F := Ideal) S1x10240 .f32 0x00000000#32 (ix2 (0 : Fin 1) r) = (0 : EReal) from zero32)).trans (zero_add _)

end Products

/-! ## The hidden layer and the weights -/

/-- The hidden layer before its slope, at a row inside the array. -/
theorem p9 (i : grid0.Coords) (x5 : Vec Ideal S10240x128 .f32) (x6 : Vec Ideal S48x10240 .f32) (x7 : Vec Ideal S128x128 .bf16)
    (x8 : Vec Ideal S48x128 .bf16) (x9 : Vec Ideal S1x128 .f32) (r : Fin 10240) (d : Fin 128) (h : (i 0).val * 10240 + r.val < 100000) :
    k0_pay9 (F := Ideal) i 100000#32 x5 x6 x7 x8 x9 (ix2 r d)
      = ((∑ k : Fin 128, (x5 (ix2 r k) * x7 (ix2 k d) : EReal)) + ∑ k : Fin 48, (x6 (ix2 k r) * x8 (ix2 k d) : EReal)) + x9 (ix2 (0 : Fin 1) d) := by
  unfold k0_pay9
  rw [addf_apply, addf_apply, shapeCast_self, shapeCast_self, shapeCast_self,
    broadcastTo_apply _ _ (ix2 r d) (ix2 (0 : Fin 1) d) (fun a => by
      match a with
      | ⟨0, _⟩ => rfl
      | ⟨1, _⟩ => rfl)]
  refine congrArg (fun z : EReal => z + (x9 (ix2 (0 : Fin 1) d) : EReal)) ?_
  refine congrArg₂ (fun z w : EReal => z + w) ((plain_zero (φ₁ := .bf16) (φ₂ := .bf16) none _ rfl _ _ r d).trans ?_) ((vec_zero (φ₁ := .bf16) (φ₂ := .bf16) none _ _ r d).trans ?_)
  · exact Finset.sum_congr rfl fun k _ => by rw [p5, if_pos h]
  · exact Finset.sum_congr rfl fun k _ => by rw [p7, if_pos h]

/-- The row comparison over 32-bit words. -/
theorem mask_word (n r : ℕ) (hn : n < 10) (hr : r < 10240) :
    IntOp.cmpi .slt (BitVec.ofNat 32 r) (Scalar.subi 100000#32 (Scalar.muli (BitVec.ofNat 32 n) 10240#32))
      = if n * 10240 + r < 100000 then 1#1 else 0#1 := by
  have e : Scalar.subi 100000#32 (Scalar.muli (BitVec.ofNat 32 n) 10240#32) = BitVec.ofNat 32 (100000 - n * 10240) := by
    interval_cases n <;> rfl
  rw [e]
  by_cases h : n * 10240 + r < 100000
  · rw [if_pos h, IntOp.cmpi_slt, BitVec.toInt_eq_toNat_cond, BitVec.toInt_eq_toNat_cond, BitVec.toNat_ofNat, BitVec.toNat_ofNat,
      Nat.mod_eq_of_lt (by omega), Nat.mod_eq_of_lt (by omega), if_pos (by omega), if_pos (by omega)]
    omega
  · rw [if_neg h]
    refine (BitVec.eq_zero_or_eq_one _).resolve_right fun h1 => h ?_
    rw [IntOp.cmpi_slt, BitVec.toInt_eq_toNat_cond, BitVec.toInt_eq_toNat_cond, BitVec.toNat_ofNat, BitVec.toNat_ofNat,
      Nat.mod_eq_of_lt (by omega), Nat.mod_eq_of_lt (by omega), if_pos (by omega), if_pos (by omega)] at h1
    omega

/-- The slope, read at an entry. -/
theorem leaky_at {s : Shape} (P : FVec Ideal s .f32) (j : s.Idx) :
    select (cmpf .oge P (broadcast s (Scalar.ofBits .f32 0x00000000#32 : Ideal .f32))) P (mulf (broadcast s (Scalar.ofBits .f32 0x3C23D70A#32 : Ideal .f32)) P) j
      = leaky (P j) := rfl

/-- A row's weight: the exponential of the second layer inside the array, zero past it. -/
theorem p10 (i : grid0.Coords) (P : FVec Ideal S10240x128 .f32) (x10 : Vec Ideal S128x1 .bf16) (x11 : Vec Ideal S1x1 .f32) (r : Fin 10240) :
    k0_pay10 (F := Ideal) (rowsLeft (F := Ideal) i 100000#32) P x10 x11 (ix2 (0 : Fin 1) r)
      = if (i 0).val * 10240 + r.val < 100000 then
          Ideal.exp ((∑ d : Fin 128, (x10 (ix2 d (0 : Fin 1)) * leaky (P (ix2 r d)) : EReal)) + x11 (ix2 (0 : Fin 1) (0 : Fin 1)))
        else (0 : EReal) := by
  unfold k0_pay10
  rw [truncf_apply, select_apply, cmpi_at, iota_single_apply, broadcast_apply, broadcast_apply]
  have hm := mask_word (i 0).val r.val (i 0).isLt r.isLt
  rw [show IntOp.cmpi .slt (BitVec.ofNat 32 (ix2 (0 : Fin 1) r 1).val) (rowsLeft (F := Ideal) i 100000#32) = _ from hm]
  by_cases h : (i 0).val * 10240 + r.val < 100000
  · rw [if_pos h, if_pos h]
    refine (if_pos rfl).trans ?_
    refine congrArg Ideal.exp ?_
    rw [addf_apply, shapeCast_self, shapeCast_self, broadcastTo_apply _ _ (ix2 (0 : Fin 1) r) (ix2 (0 : Fin 1) (0 : Fin 1)) (fun a => by
      match a with
      | ⟨0, _⟩ => rfl
      | ⟨1, _⟩ => rfl)]
    refine congrArg (fun z : EReal => z + (x11 (ix2 (0 : Fin 1) (0 : Fin 1)) : EReal)) ((gate_zero (φ₁ := .bf16) (φ₂ := .bf16) none _ _ r).trans ?_)
    exact Finset.sum_congr rfl fun d _ => rfl
  · rw [if_neg h, if_neg h]
    exact (if_neg (by decide)).trans zero32

/-! ## The one-hot rows -/

/-- A block's ids as 16-bit words. -/
theorem p11 (x4 : Vec Ideal S1x1x10240 .i32) (r : Fin 10240) :
    k0_pay11 (F := Ideal) x4 (ix2 (0 : Fin 1) r) = BitVec.setWidth 16 (x4 (ix3 (0 : Fin 1) (0 : Fin 1) r)) := by
  unfold k0_pay11
  rw [trunci_at, shapeCast_self]
  refine congrArg (BitVec.setWidth 16) (shapeCast_apply _ _ _ _ ?_)
  rw [Shape.rowMajor_val_three, Shape.rowMajor_val_two]
  show (0 * 1 + 0) * 10240 + r.val = 0 * 10240 + r.val
  omega

/-- The weights spread over the groups: a row's weight in its own group, zero in the others. -/
theorem p1 (E : FVec Ideal S1x10240 .bf16) (I : IVec S1x10240 16) (g : Fin 512) (r : Fin 10240) :
    k0_pay1 (F := Ideal) E I (ix2 g r) = if I (ix2 (0 : Fin 1) r) = BitVec.ofNat 16 g.val then E (ix2 (0 : Fin 1) r) else (0 : EReal) := by
  unfold k0_pay1
  rw [select_apply, cmpi_at, iota_single_apply, shapeCast_self, broadcast_apply, zero16,
    broadcastTo_apply I _ (ix2 g r) (ix2 (0 : Fin 1) r) (fun a => by
      match a with
      | ⟨0, _⟩ => rfl
      | ⟨1, _⟩ => rfl),
    broadcastTo_apply E _ (ix2 g r) (ix2 (0 : Fin 1) r) (fun a => by
      match a with
      | ⟨0, _⟩ => rfl
      | ⟨1, _⟩ => rfl)]
  exact if_congr IntOp.cmpi_eq rfl rfl

/-- The weights spread over a window of 64 groups. -/
theorem p14 (v : BitVec 32) (P : FVec Ideal S10240x128 .f32) (x10 : Vec Ideal S128x1 .bf16) (x11 : Vec Ideal S1x1 .f32)
    (x4 : Vec Ideal S1x1x10240 .i32) (b : Elt Ideal .i32) (w : Fin 64) (r : Fin 10240) :
    k0_pay14 (F := Ideal) v P x10 x11 x4 b (ix2 w r)
      = if BitVec.setWidth 16 (x4 (ix3 (0 : Fin 1) (0 : Fin 1) r)) - BitVec.setWidth 16 (Scalar.minsi b 448#32) = BitVec.ofNat 16 w.val then
          k0_pay10 (F := Ideal) v P x10 x11 (ix2 (0 : Fin 1) r)
        else (0 : EReal) := by
  unfold k0_pay14
  generalize hE : k0_pay10 (F := Ideal) v P x10 x11 = E
  rw [select_apply, cmpi_at, iota_single_apply, shapeCast_self, broadcast_apply, zero16,
    broadcastTo_apply _ _ (ix2 w r) (ix2 (0 : Fin 1) r) (fun a => by
      match a with
      | ⟨0, _⟩ => rfl
      | ⟨1, _⟩ => rfl),
    broadcastTo_apply E _ (ix2 w r) (ix2 (0 : Fin 1) r) (fun a => by
      match a with
      | ⟨0, _⟩ => rfl
      | ⟨1, _⟩ => rfl)]
  refine if_congr (IntOp.cmpi_eq.trans ?_) rfl rfl
  rw [← p11]
  exact Iff.rfl

end Cert.KernelIdeal.Gen

end
-- ==== Proof.Steps.lean ====
/-
  One point of the grid over the extended reals: each accumulator grows, in each group, by the sum over the block's rows of
  that group of the row's weight times the row's value.
-/
module

public import proofs.«01_k».proof.Proof.Pieces
public import proofs.«01_k».proof.Proof.Blocks
public import Idealize.ShloMosaic.Lib.VecWindow

@[expose] public section

set_option maxRecDepth 16384

noncomputable section

namespace Cert.KernelIdeal.Gen

open Idealize.ShloMosaic hiding ix1 ix2 ix3
open Idealize.ShloMosaic.TcCoe Idealize.ShloMosaic.Tactic
open Idealize.ShloMosaic.ValueIdx
open Cert.Proof (leak leaky)

/-! ## Words -/

/-- An id below 512, cut to 16 bits, is the group's word exactly when it is the group. -/
theorem word_is (x : BitVec 32) (hx : x.toNat < 512) (g : ℕ) (hg : g < 512) : BitVec.setWidth 16 x = BitVec.ofNat 16 g ↔ x.toNat = g := by
  rw [← BitVec.toNat_inj, BitVec.toNat_setWidth, BitVec.toNat_ofNat, Nat.mod_eq_of_lt (by omega), Nat.mod_eq_of_lt (by omega)]

/-- An id less a window's start, both below 512 and cut to 16 bits, is a place in the window exactly when the id is there. -/
theorem word_in (x b : BitVec 32) (hx : x.toNat < 512) (hb : b.toNat < 512) (w : ℕ) (hw : w < 64) :
    BitVec.setWidth 16 x - BitVec.setWidth 16 b = BitVec.ofNat 16 w ↔ x.toNat = b.toNat + w := by
  rw [← BitVec.toNat_inj, BitVec.toNat_sub, BitVec.toNat_setWidth, BitVec.toNat_setWidth, BitVec.toNat_ofNat]
  omega

/-- Where the narrow update runs, the last id lies in the window. -/
theorem narrow_lt (g e : BitVec 32) (hg : g.toNat < 512) (he : e.toNat < 512) (h : k0_cond2 g e = 1#1) :
    e.toNat < min g.toNat 448 + 64 := by
  have hb := minsi_nat g hg
  unfold k0_cond2 at h
  dsimp only at h
  rcases BitVec.eq_zero_or_eq_one (Scalar.cmpi .slt (Scalar.subi e (Scalar.minsi g 448#32)) 64#32) with h0 | h1
  · rw [h0] at h; exact absurd h (by decide)
  · have h2 : (Scalar.subi e (Scalar.minsi g 448#32)).toInt < (64#32 : BitVec 32).toInt := IntOp.cmpi_slt.mp h1
    have e64 : (64#32 : BitVec 32).toInt = 64 := by decide
    rw [e64, show Scalar.subi e (Scalar.minsi g 448#32) = e - Scalar.minsi g 448#32 from rfl, BitVec.toInt_eq_toNat_cond, BitVec.toNat_sub, hb] at h2
    split at h2 <;> omega

/-- The wide update runs where the narrow one does not. -/
theorem wide_iff (g e : BitVec 32) : isWide g e = 1#1 ↔ ¬ k0_cond2 g e = 1#1 := by
  unfold isWide k0_cond2
  dsimp only
  rcases BitVec.eq_zero_or_eq_one (Scalar.cmpi .slt (Scalar.subi e (Scalar.minsi g 448#32)) 64#32) with h0 | h1
  · rw [h0]; decide
  · rw [h1]; decide

/-! ## The rows' terms -/

/-- What row `x` of the whole table adds to group `g`: its weight times its value where it belongs to the group. -/
def term (id : Fin 100000 → ℕ) (e v : Fin 100000 → EReal) (g x : ℕ) : EReal :=
  if h : x < 100000 then (if id ⟨x, h⟩ = g then e ⟨x, h⟩ * v ⟨x, h⟩ else 0) else 0

/-- The weight of a row, from the tables the kernel reads. -/
def weight (S : Fin 100000 → Fin 128 → EReal) (T : Fin 100000 → Fin 48 → EReal) (x7 : Vec Ideal S128x128 .bf16) (x8 : Vec Ideal S48x128 .bf16)
    (x9 : Vec Ideal S1x128 .f32) (x10 : Vec Ideal S128x1 .bf16) (x11 : Vec Ideal S1x1 .f32) (n : Fin 100000) : EReal :=
  Ideal.exp ((∑ d : Fin 128, (x10 (ix2 d (0 : Fin 1)) *
    leaky (((∑ k : Fin 128, (S n k * x7 (ix2 k d) : EReal)) + ∑ k : Fin 48, (T n k * x8 (ix2 k d) : EReal)) + x9 (ix2 (0 : Fin 1) d)) : EReal))
    + x11 (ix2 (0 : Fin 1) (0 : Fin 1)))

section Point

variable (i : grid0.Coords) (x4 : Vec Ideal S1x1x10240 .i32) (x5 : Vec Ideal S10240x128 .f32) (x6 : Vec Ideal S48x10240 .f32)
  (x7 : Vec Ideal S128x128 .bf16) (x8 : Vec Ideal S48x128 .bf16) (x9 : Vec Ideal S1x128 .f32) (x10 : Vec Ideal S128x1 .bf16)
  (x11 : Vec Ideal S1x1 .f32)

/-- What the point's blocks hold on the rows inside the array: the ids, the scalar features, the vector features. -/
structure Holds (W : Fin 100000 → BitVec 32) (S : Fin 100000 → Fin 128 → EReal) (T : Fin 100000 → Fin 48 → EReal) : Prop where
  ids : ∀ (r : Fin 10240) (h : (i 0).val * 10240 + r.val < 100000), x4 (ix3 (0 : Fin 1) (0 : Fin 1) r) = W ⟨(i 0).val * 10240 + r.val, h⟩
  scal : ∀ (r : Fin 10240) (d : Fin 128) (h : (i 0).val * 10240 + r.val < 100000), x5 (ix2 r d) = S ⟨(i 0).val * 10240 + r.val, h⟩ d
  vect : ∀ (k : Fin 48) (r : Fin 10240) (h : (i 0).val * 10240 + r.val < 100000), x6 (ix2 k r) = T ⟨(i 0).val * 10240 + r.val, h⟩ k

variable {i x4 x5 x6} {W : Fin 100000 → BitVec 32} {S : Fin 100000 → Fin 128 → EReal} {T : Fin 100000 → Fin 48 → EReal}

/-- A row's weight as the point computes it. -/
theorem wts_apply (H : Holds i x4 x5 x6 W S T) (r : Fin 10240) :
    k0_pay10 (F := Ideal) (rowsLeft (F := Ideal) i 100000#32) (k0_pay9 (F := Ideal) i 100000#32 x5 x6 x7 x8 x9) x10 x11 (ix2 (0 : Fin 1) r)
      = if h : (i 0).val * 10240 + r.val < 100000 then weight S T x7 x8 x9 x10 x11 ⟨(i 0).val * 10240 + r.val, h⟩ else 0 := by
  rw [p10]
  by_cases h : (i 0).val * 10240 + r.val < 100000
  · rw [if_pos h, dif_pos h]
    unfold weight
    refine congrArg Ideal.exp (congrArg (fun z : EReal => z + x11 (ix2 (0 : Fin 1) (0 : Fin 1))) (Finset.sum_congr rfl fun d _ => ?_))
    refine congrArg (fun z : EReal => (x10 (ix2 d (0 : Fin 1)) : EReal) * leaky z) ?_
    rw [p9 i x5 x6 x7 x8 x9 r d h]
    simp only [H.scal r _ h, H.vect _ r h]
  · rw [if_neg h, dif_neg h]

/-- A row's product with a masked weight is its term. -/
theorem masked_mul (H : Holds i x4 x5 x6 W S T) (hW : ∀ n, (W n).toNat < 512) (r : Fin 10240) (g : ℕ) (P : Prop) [Decidable P]
    (hP : ∀ h : (i 0).val * 10240 + r.val < 100000, P ↔ (W ⟨(i 0).val * 10240 + r.val, h⟩).toNat = g) (y : EReal) (v : Fin 100000 → EReal)
    (hv : ∀ h : (i 0).val * 10240 + r.val < 100000, y = v ⟨(i 0).val * 10240 + r.val, h⟩) :
    ((if P then k0_pay10 (F := Ideal) (rowsLeft (F := Ideal) i 100000#32) (k0_pay9 (F := Ideal) i 100000#32 x5 x6 x7 x8 x9) x10 x11 (ix2 (0 : Fin 1) r) else (0 : EReal)) * y : EReal)
      = term (fun n => (W n).toNat) (weight S T x7 x8 x9 x10 x11) v g ((i 0).val * 10240 + r.val) := by
  rw [wts_apply x7 x8 x9 x10 x11 H r]
  unfold term
  by_cases h : (i 0).val * 10240 + r.val < 100000
  · rw [dif_pos h, dif_pos h]
    by_cases hp : P
    · rw [if_pos hp, if_pos ((hP h).mp hp), hv h]
    · rw [if_neg hp, if_neg fun q => hp ((hP h).mpr q), zero_mul]
  · rw [dif_neg h, dif_neg h, ite_self, zero_mul]

/-- The value of a row in a column of the vector accumulator: the feature, or one in the last column. -/
def withOne (T : Fin 100000 → Fin 48 → EReal) (k : Fin 49) (n : Fin 100000) : EReal := if h : k.val < 48 then T n ⟨k.val, h⟩ else 1

/-- The vector features' block with its row of ones, on a row inside the array. -/
theorem p8 (H : Holds i x4 x5 x6 W S T) (k : Fin 49) (r : Fin 10240) (h : (i 0).val * 10240 + r.val < 100000) :
    k0_pay8 (F := Ideal) i 100000#32 x6 (ix2 k r) = withOne T k ⟨(i 0).val * 10240 + r.val, h⟩ := by
  unfold withOne
  by_cases hk : k.val < 48
  · rw [dif_pos hk, p8_feature i x6 ⟨k.val, hk⟩ k rfl r, if_pos h]
    exact H.vect _ r h
  · have e : k = (48 : Fin 49) := Fin.ext (by show k.val = 48; have := k.isLt; omega)
    rw [dif_neg hk, e, p8_one i x6 r, if_pos h]

/-- The whole scalar accumulator's update. -/
theorem wide_S (H : Holds i x4 x5 x6 W S T) (hW : ∀ n, (W n).toNat < 512) (p : Vec Ideal S512x128 .f32) (g : Fin 512) (d : Fin 128) :
    k0_pay2 (F := Ideal) (k0_pay5 i 100000#32 x5) (wts i 100000#32 x5 x6 x7 x8 x9 x10 x11) (k0_pay11 (F := Ideal) x4) p (ix2 g d)
      = p (ix2 g d) + ∑ r : Fin 10240, term (fun n => (W n).toNat) (weight S T x7 x8 x9 x10 x11) (fun n => S n d) g.val ((i 0).val * 10240 + r.val) := by
  unfold k0_pay2 wts
  rw [shapeCast_self, addf_apply]
  refine congrArg (fun z : EReal => p (ix2 g d) + z) ((plain_zero (φ₁ := .bf16) (φ₂ := .bf16) none _ rfl _ _ g d).trans (Finset.sum_congr rfl fun r _ => ?_))
  rw [p1, p11]
  exact masked_mul x7 x8 x9 x10 x11 H hW r g.val _ (fun h => by rw [H.ids r h]; exact word_is _ (hW _) _ g.isLt) _ (fun n => S n d)
    (fun h => by rw [p5, if_pos h]; exact H.scal r d h)

/-- The whole vector accumulator's update. -/
theorem wide_V (H : Holds i x4 x5 x6 W S T) (hW : ∀ n, (W n).toNat < 512) (q : Vec Ideal S512x49 .f32) (g : Fin 512) (k : Fin 49) :
    k0_pay3 (F := Ideal) (k0_pay8 i 100000#32 x6) (wts i 100000#32 x5 x6 x7 x8 x9 x10 x11) (k0_pay11 (F := Ideal) x4) q (ix2 g k)
      = q (ix2 g k) + ∑ r : Fin 10240, term (fun n => (W n).toNat) (weight S T x7 x8 x9 x10 x11) (withOne T k) g.val ((i 0).val * 10240 + r.val) := by
  unfold k0_pay3 wts
  rw [shapeCast_self, addf_apply]
  refine congrArg (fun z : EReal => q (ix2 g k) + z) ((rows_zero (φ₁ := .bf16) (φ₂ := .bf16) none _ rfl _ _ g k).trans (Finset.sum_congr rfl fun r _ => ?_))
  rw [p1, p11]
  exact masked_mul x7 x8 x9 x10 x11 H hW r g.val _ (fun h => by rw [H.ids r h]; exact word_is _ (hW _) _ g.isLt) _ (withOne T k)
    (fun h => p8 H k r h)

/-- The scalar window's update. -/
theorem narrow_S (H : Holds i x4 x5 x6 W S T) (hW : ∀ n, (W n).toNat < 512) (b : BitVec 32) (hb : b.toNat < 512)
    (win : Vec Ideal S64x128 .f32) (w : Fin 64) (d : Fin 128) :
    k0_pay15 (F := Ideal) (rowsLeft (F := Ideal) i 100000#32) (k0_pay5 i 100000#32 x5) (k0_pay9 i 100000#32 x5 x6 x7 x8 x9) x10 x11 x4 b win (ix2 w d)
      = win (ix2 w d) + ∑ r : Fin 10240, term (fun n => (W n).toNat) (weight S T x7 x8 x9 x10 x11) (fun n => S n d) (min b.toNat 448 + w.val) ((i 0).val * 10240 + r.val) := by
  have hm := minsi_nat b hb
  unfold k0_pay15
  rw [shapeCast_self, addf_apply]
  refine congrArg (fun z : EReal => win (ix2 w d) + z) ((plain_zero (φ₁ := .bf16) (φ₂ := .bf16) none _ rfl _ _ w d).trans (Finset.sum_congr rfl fun r _ => ?_))
  rw [p14]
  exact masked_mul x7 x8 x9 x10 x11 H hW r _ _ (fun h => by rw [H.ids r h, ← hm]; exact word_in _ _ (hW _) (by omega) _ w.isLt) _ (fun n => S n d)
    (fun h => by rw [p5, if_pos h]; exact H.scal r d h)

/-- The vector window's update. -/
theorem narrow_V (H : Holds i x4 x5 x6 W S T) (hW : ∀ n, (W n).toNat < 512) (b : BitVec 32) (hb : b.toNat < 512)
    (win : Vec Ideal S64x49 .f32) (w : Fin 64) (k : Fin 49) :
    k0_pay16 (F := Ideal) (rowsLeft (F := Ideal) i 100000#32) (k0_pay8 i 100000#32 x6) (k0_pay9 i 100000#32 x5 x6 x7 x8 x9) x10 x11 x4 b win (ix2 w k)
      = win (ix2 w k) + ∑ r : Fin 10240, term (fun n => (W n).toNat) (weight S T x7 x8 x9 x10 x11) (withOne T k) (min b.toNat 448 + w.val) ((i 0).val * 10240 + r.val) := by
  have hm := minsi_nat b hb
  unfold k0_pay16
  rw [shapeCast_self, addf_apply]
  refine congrArg (fun z : EReal => win (ix2 w k) + z) ((rows_zero (φ₁ := .bf16) (φ₂ := .bf16) none _ rfl _ _ w k).trans (Finset.sum_congr rfl fun r _ => ?_))
  rw [p14]
  exact masked_mul x7 x8 x9 x10 x11 H hW r _ _ (fun h => by rw [H.ids r h, ← hm]; exact word_in _ _ (hW _) (by omega) _ w.isLt) _ (withOne T k)
    (fun h => p8 H k r h)

/-- A group none of the block's rows belongs to gets nothing. -/
theorem no_term (W : Fin 100000 → BitVec 32) (e v : Fin 100000 → EReal) (g n0 : ℕ)
    (h : ∀ (r : Fin 10240) (h : n0 * 10240 + r.val < 100000), (W ⟨n0 * 10240 + r.val, h⟩).toNat ≠ g) :
    (∑ r : Fin 10240, term (fun n => (W n).toNat) e v g (n0 * 10240 + r.val)) = 0 := by
  refine Finset.sum_eq_zero fun r _ => ?_
  unfold term
  by_cases hr : n0 * 10240 + r.val < 100000
  · rw [dif_pos hr, if_neg (h r hr)]
  · rw [dif_neg hr]

/-- Rows put over a window of whole rows: inside it the new row, outside it the old one. -/
theorem put_rows {α : Type} {N K Wd : ℕ} (x : (⟨2, ![N, K]⟩ : Shape).Idx → α) (b : ℕ)
    (w : ((a : Fin 2) → Fin ((![Wd, K] : Fin 2 → ℕ) a)) → α) (g : Fin N) (d : Fin K) :
    VecWindow.put (s := (⟨2, ![N, K]⟩ : Shape)) x ![b, 0] ![Wd, K] w (ix2 g d)
      = if h : b ≤ g.val ∧ g.val < b + Wd then w (ix2 (⟨g.val - b, by omega⟩ : Fin Wd) d) else x (ix2 g d) := by
  unfold VecWindow.put
  by_cases h : b ≤ g.val ∧ g.val < b + Wd
  · have h' : ∀ a : Fin 2, (![b, 0] : Fin 2 → ℕ) a ≤ (ix2 g d a).val ∧ (ix2 g d a).val < (![b, 0] : Fin 2 → ℕ) a + (![Wd, K] : Fin 2 → ℕ) a := fun a => by
      match a with
      | ⟨0, _⟩ => exact h
      | ⟨1, _⟩ => exact ⟨Nat.zero_le _, by show d.val < 0 + K; have := d.isLt; omega⟩
    rw [dif_pos h]
    refine (dif_pos h').trans (congrArg w (funext fun a => Fin.ext ?_))
    match a with
    | ⟨0, _⟩ => rfl
    | ⟨1, _⟩ => rfl
  · rw [dif_neg h]
    exact dif_neg fun h' => h (h' 0)

/-- A window of whole rows reads the rows it covers. -/
theorem window_rows {α : Type} {N K Wd : ℕ} (x : (⟨2, ![N, K]⟩ : Shape).Idx → α) (b : ℕ)
    (inb : ∀ a : Fin 2, (![b, 0] : Fin 2 → ℕ) a + (![Wd, K] : Fin 2 → ℕ) a ≤ (![N, K] : Fin 2 → ℕ) a) (w : Fin Wd) (g : Fin N) (hg : g.val = b + w.val) (d : Fin K) :
    VecWindow.window (s := (⟨2, ![N, K]⟩ : Shape)) x ![b, 0] ![Wd, K] inb (ix2 w d) = x (ix2 g d) := by
  unfold VecWindow.window
  refine congrArg x (funext fun a => Fin.ext ?_)
  match a with
  | ⟨0, _⟩ => exact (show b + 1 * w.val = g.val by omega)
  | ⟨1, _⟩ => exact (show 0 + 1 * d.val = d.val by omega)

/-- One point of the scalar accumulator: each group grows by its rows' terms. -/
theorem stepS_apply (H : Holds i x4 x5 x6 W S T) (hW : ∀ n, (W n).toNat < 512) (b e : BitVec 32) (hb : b.toNat < 512) (he : e.toNat < 512)
    (hc : k0_chk1 b e)
    (hr : ∀ (r : Fin 10240) (h : (i 0).val * 10240 + r.val < 100000),
      b.toNat ≤ (W ⟨(i 0).val * 10240 + r.val, h⟩).toNat ∧ (W ⟨(i 0).val * 10240 + r.val, h⟩).toNat ≤ e.toNat)
    (p : Vec Ideal S512x128 .f32) (g : Fin 512) (d : Fin 128) :
    stepS (F := Ideal) i 100000#32 b e x4 x5 x6 x7 x8 x9 x10 x11 p (ix2 g d)
      = (if isFirst i = 1#1 then k0_pay12 (F := Ideal) else p) (ix2 g d)
        + ∑ r : Fin 10240, term (fun n => (W n).toNat) (weight S T x7 x8 x9 x10 x11) (fun n => S n d) g.val ((i 0).val * 10240 + r.val) := by
  unfold stepS midS
  by_cases hn : k0_cond2 b e = 1#1
  · rw [if_neg fun h => (wide_iff b e).mp h hn, dif_pos ⟨hc, hn⟩]
    have ho : k0_off2 b = ![min b.toNat 448, 0] := by rw [← minsi_nat b hb]; rfl
    have hlt := narrow_lt b e hb he hn
    generalize hp : (if isFirst i = 1#1 then k0_pay12 (F := Ideal) else p) = p'
    suffices key : ∀ (o : Fin 2 → ℕ) (ho : o = ![min b.toNat 448, 0]) (inb : ∀ a : Fin 2, o a + S64x128.size a ≤ S512x128.size a),
        VecWindow.put p' o S64x128.size (k0_pay15 (F := Ideal) (rowsLeft (F := Ideal) i 100000#32) (k0_pay5 i 100000#32 x5) (k0_pay9 i 100000#32 x5 x6 x7 x8 x9) x10 x11 x4 b
          (VecWindow.window p' o S64x128.size inb)) (ix2 g d)
        = p' (ix2 g d) + ∑ r : Fin 10240, term (fun n => (W n).toNat) (weight S T x7 x8 x9 x10 x11) (fun n => S n d) g.val ((i 0).val * 10240 + r.val) from
      key _ ho _
    intro o ho inb
    subst ho
    refine (put_rows (Wd := 64) p' _ _ g d).trans ?_
    by_cases hw : min b.toNat 448 ≤ g.val ∧ g.val < min b.toNat 448 + 64
    · rw [dif_pos hw]
      refine (narrow_S x7 x8 x9 x10 x11 H hW b hb _ _ d).trans ?_
      have eg : min b.toNat 448 + (g.val - min b.toNat 448) = g.val := by omega
      refine congrArg₂ (fun y z : EReal => y + z) (window_rows (Wd := 64) p' _ inb _ g eg.symm d) ?_
      show (∑ r : Fin 10240, term _ _ _ (min b.toNat 448 + (g.val - min b.toNat 448)) _) = _
      rw [eg]
    · rw [dif_neg hw, no_term W _ _ g.val (i 0).val fun r h hg => ?_, add_zero]
      have := hr r h
      omega
  · rw [if_pos ((wide_iff b e).mpr hn), dif_neg fun h => hn h.2]
    exact wide_S x7 x8 x9 x10 x11 H hW _ g d

/-- One point of the vector accumulator: each group grows by its rows' terms. -/
theorem stepV_apply (H : Holds i x4 x5 x6 W S T) (hW : ∀ n, (W n).toNat < 512) (b e : BitVec 32) (hb : b.toNat < 512) (he : e.toNat < 512)
    (hc : k0_chk1 b e)
    (hr : ∀ (r : Fin 10240) (h : (i 0).val * 10240 + r.val < 100000),
      b.toNat ≤ (W ⟨(i 0).val * 10240 + r.val, h⟩).toNat ∧ (W ⟨(i 0).val * 10240 + r.val, h⟩).toNat ≤ e.toNat)
    (q : Vec Ideal S512x49 .f32) (g : Fin 512) (k : Fin 49) :
    stepV (F := Ideal) i 100000#32 b e x4 x5 x6 x7 x8 x9 x10 x11 q (ix2 g k)
      = (if isFirst i = 1#1 then k0_pay13 (F := Ideal) else q) (ix2 g k)
        + ∑ r : Fin 10240, term (fun n => (W n).toNat) (weight S T x7 x8 x9 x10 x11) (withOne T k) g.val ((i 0).val * 10240 + r.val) := by
  unfold stepV midV
  by_cases hn : k0_cond2 b e = 1#1
  · rw [if_neg fun h => (wide_iff b e).mp h hn, dif_pos ⟨hc, hn⟩]
    have ho : k0_off3 b = ![min b.toNat 448, 0] := by rw [← minsi_nat b hb]; rfl
    have hlt := narrow_lt b e hb he hn
    generalize hp : (if isFirst i = 1#1 then k0_pay13 (F := Ideal) else q) = q'
    suffices key : ∀ (o : Fin 2 → ℕ) (ho : o = ![min b.toNat 448, 0]) (inb : ∀ a : Fin 2, o a + S64x49.size a ≤ S512x49.size a),
        VecWindow.put q' o S64x49.size (k0_pay16 (F := Ideal) (rowsLeft (F := Ideal) i 100000#32) (k0_pay8 i 100000#32 x6) (k0_pay9 i 100000#32 x5 x6 x7 x8 x9) x10 x11 x4 b
          (VecWindow.window q' o S64x49.size inb)) (ix2 g k)
        = q' (ix2 g k) + ∑ r : Fin 10240, term (fun n => (W n).toNat) (weight S T x7 x8 x9 x10 x11) (withOne T k) g.val ((i 0).val * 10240 + r.val) from
      key _ ho _
    intro o ho inb
    subst ho
    refine (put_rows (Wd := 64) q' _ _ g k).trans ?_
    by_cases hw : min b.toNat 448 ≤ g.val ∧ g.val < min b.toNat 448 + 64
    · rw [dif_pos hw]
      refine (narrow_V x7 x8 x9 x10 x11 H hW b hb _ _ k).trans ?_
      have eg : min b.toNat 448 + (g.val - min b.toNat 448) = g.val := by omega
      refine congrArg₂ (fun y z : EReal => y + z) (window_rows (Wd := 64) q' _ inb _ g eg.symm k) ?_
      show (∑ r : Fin 10240, term _ _ _ (min b.toNat 448 + (g.val - min b.toNat 448)) _) = _
      rw [eg]
    · rw [dif_neg hw, no_term W _ _ g.val (i 0).val fun r h hg => ?_, add_zero]
      have := hr r h
      omega
  · rw [if_pos ((wide_iff b e).mpr hn), dif_neg fun h => hn h.2]
    exact wide_V x7 x8 x9 x10 x11 H hW _ g k

end Point

end Cert.KernelIdeal.Gen

end
-- ==== Proof.Sums.lean ====
/-
  The accumulators over the extended reals: after the last point each holds, in each group, the sum over the whole table's
  rows of that group of the row's weight times the row's value.
-/
module

public import proofs.«01_k».proof.Proof.Steps
public import Idealize.ShloMosaic.Lib.Routing.Ops

@[expose] public section

set_option maxRecDepth 16384

noncomputable section

namespace Cert.KernelIdeal.Gen

open Idealize.ShloMosaic hiding ix1 ix2 ix3
open Idealize.ShloMosaic.TcCoe Idealize.ShloMosaic.Tactic
open Idealize.ShloMosaic.ValueIdx
open Cert.Proof (leak leaky)

variable (m : (ℓ : Loc nD τ sig) → Buf (Elt Ideal) ℓ) (c : Dev nD)

/-- The rows' group words. -/
def word (n : Fin 100000) : BitVec 32 := m ((c : Thread nD τ).loc main_arg2) (ix1 n)
/-- The rows' scalar features. -/
def scal (n : Fin 100000) (d : Fin 128) : EReal := m ((c : Thread nD τ).loc main_arg0) (ix2 n d)
/-- The rows' vector features, in the order the kernel keeps them. -/
def vect (n : Fin 100000) (k : Fin 48) : EReal := V m c main_v1 (ix2 k n)
/-- The rows' weights. -/
def wt (n : Fin 100000) : EReal :=
  weight (scal m c) (vect m c) (V m c main_v5) (V m c main_v10) (V m c main_v42) (V m c main_v11) (V m c main_v43) n

/-- The ids are below 512 and in order. -/
structure Good : Prop where
  lt : ∀ n : Fin 100000, (word m c n).toNat < 512
  mono : ∀ n n' : Fin 100000, n ≤ n' → (word m c n).toNat ≤ (word m c n').toNat

/-- The padded ids, on a row inside the array. -/
theorem ids_at (t : Fin 10) (r : Fin 10240) (h : t.val * 10240 + r.val < 100000) :
    V m c main_v3 (ix3 t (0 : Fin 1) r) = word m c ⟨t.val * 10240 + r.val, h⟩ := by
  rw [V_ids]
  refine (shapeCast_apply (s := S102400) _ _ (ix3 t (0 : Fin 1) r) (ix1 (⟨t.val * 10240 + r.val, by omega⟩ : Fin 102400)) ?_).trans ?_
  · rw [Shape.rowMajor_val_three, Shape.rowMajor_val_one]
    show t.val * 10240 + r.val = (t.val * 1 + 0) * 10240 + r.val
    omega
  · refine (Routing.pad1 (n := 100000) (m := 102400) (lo := 0) (hi := 2400) _ _ _ _ (⟨t.val * 10240 + r.val, by omega⟩ : Fin 102400)).trans ?_
    rw [dif_pos ⟨Nat.zero_le _, h⟩]
    rfl

/-- What the point's blocks hold. -/
theorem holds (t : Fin cfg0.N) : Holds (grid0.coords t) (iblk m c 3 t) (blkS m c t) (blkV m c t) (word m c) (scal m c) (vect m c) where
  ids r h := by
    have e := coords_val t
    have h' : t.val * 10240 + r.val < 100000 := by rw [← e]; exact h
    rw [iblk_3]
    refine (ids_at m c (⟨t.val, t.isLt⟩ : Fin 10) r h').trans (congrArg (word m c) (Fin.ext ?_))
    show t.val * 10240 + r.val = ((grid0.coords t) 0).val * 10240 + r.val
    rw [e]
  scal r d h := by
    have e := coords_val t
    have h' : t.val * 10240 + r.val < 100000 := by rw [← e]; exact h
    refine (blkS_apply m c t r d h').trans (congrArg (fun n => scal m c n d) (Fin.ext ?_))
    show t.val * 10240 + r.val = ((grid0.coords t) 0).val * 10240 + r.val
    rw [e]
  vect k r h := by
    have e := coords_val t
    have h' : t.val * 10240 + r.val < 100000 := by rw [← e]; exact h
    refine (blkV_apply m c t k r h').trans (congrArg (fun n => vect m c n k) (Fin.ext ?_))
    show t.val * 10240 + r.val = ((grid0.coords t) 0).val * 10240 + r.val
    rw [e]

variable (G : Good m c)

/-- The first and last groups the body reads bound the block's groups. -/
theorem bounds (G : Good m c) (t : Fin cfg0.N) (r : Fin 10240) (h : ((grid0.coords t) 0).val * 10240 + r.val < 100000) :
    (word10 (F := Ideal) (iblk m c 1 t) (grid0.coords t)).toNat ≤ (word m c ⟨((grid0.coords t) 0).val * 10240 + r.val, h⟩).toNat
      ∧ (word m c ⟨((grid0.coords t) 0).val * 10240 + r.val, h⟩).toNat ≤ (word10 (F := Ideal) (iblk m c 2 t) (grid0.coords t)).toNat := by
  have e := coords_val t
  rw [first_eq, last_eq]
  constructor
  · exact G.mono _ _ (by show t.val * 10240 ≤ ((grid0.coords t) 0).val * 10240 + r.val; omega)
  · exact G.mono _ _ (by
      show ((grid0.coords t) 0).val * 10240 + r.val ≤ min (t.val * 10240 + 10240) 100000 - 1
      have := r.isLt
      omega)

/-- The scalar accumulator one point further. -/
theorem nextS_apply (G : Good m c) (t : Fin cfg0.N) (p : Vec Ideal S512x128 .f32) (g : Fin 512) (d : Fin 128) :
    nextS m c t p (ix2 g d) = (if isFirst (grid0.coords t) = 1#1 then k0_pay12 (F := Ideal) else p) (ix2 g d)
      + ∑ r : Fin 10240, term (fun n => (word m c n).toNat) (wt m c) (fun n => scal m c n d) g.val (t.val * 10240 + r.val) := by
  unfold nextS
  refine (stepS_apply _ _ _ _ _ (holds m c t) G.lt _ _ (by rw [first_eq]; exact G.lt _) (by rw [last_eq]; exact G.lt _)
    (chk_of _ _ (by rw [first_eq]; exact G.lt _)) (bounds m c G t) p g d).trans ?_
  rw [coords_val, iblk_6, iblk_7, iblk_8, iblk_9, iblk_10]
  rfl

/-- The vector accumulator one point further. -/
theorem nextV_apply (G : Good m c) (t : Fin cfg0.N) (q : Vec Ideal S512x49 .f32) (g : Fin 512) (k : Fin 49) :
    nextV m c t q (ix2 g k) = (if isFirst (grid0.coords t) = 1#1 then k0_pay13 (F := Ideal) else q) (ix2 g k)
      + ∑ r : Fin 10240, term (fun n => (word m c n).toNat) (wt m c) (withOne (vect m c) k) g.val (t.val * 10240 + r.val) := by
  unfold nextV
  refine (stepV_apply _ _ _ _ _ (holds m c t) G.lt _ _ (by rw [first_eq]; exact G.lt _) (by rw [last_eq]; exact G.lt _)
    (chk_of _ _ (by rw [first_eq]; exact G.lt _)) (bounds m c G t) q g k).trans ?_
  rw [coords_val, iblk_6, iblk_7, iblk_8, iblk_9, iblk_10]
  rfl

/-- The scalar accumulator starts at zero. -/
theorem pay12_apply (g : Fin 512) (d : Fin 128) : k0_pay12 (F := Ideal) (ix2 g d) = (0 : EReal) := by
  unfold k0_pay12
  rw [shapeCast_self, broadcast_apply, zero32]

/-- The vector accumulator starts at zero. -/
theorem pay13_apply (g : Fin 512) (k : Fin 49) : k0_pay13 (F := Ideal) (ix2 g k) = (0 : EReal) := by
  unfold k0_pay13
  rw [shapeCast_self, broadcast_apply, zero32]

/-- The scalar accumulator after `n` points: the first `n` blocks' terms. -/
theorem accS_apply (G : Good m c) (g : Fin 512) (d : Fin 128) : ∀ n : ℕ, n ≤ 10 → accS m c n (ix2 g d)
    = ∑ x ∈ Finset.range (n * 10240), term (fun n => (word m c n).toNat) (wt m c) (fun n => scal m c n d) g.val x
  | 0, _ => by
    rw [Nat.zero_mul, Finset.range_zero, Finset.sum_empty]
    exact pay12_apply g d
  | n + 1, h => by
    have hn : n < cfg0.N := by show n < 10; omega
    have e : accS m c (n + 1) = nextS m c ⟨n, hn⟩ (accS m c n) := by
      show (if h : n < cfg0.N then nextS m c ⟨n, h⟩ (accS m c n) else accS m c n) = _
      rw [dif_pos hn]
    rw [e, nextS_apply m c G, Nat.succ_mul, Finset.sum_range_add, ← accS_apply G g d n (by omega), Finset.sum_range]
    refine congrArg (fun z : EReal => z + _) ?_
    by_cases h0 : n = 0
    · subst h0
      exact ite_self _ ▸ rfl
    · rw [if_neg fun q => h0 ((isFirst_iff ⟨n, hn⟩).mp q)]

/-- The vector accumulator after `n` points: the first `n` blocks' terms. -/
theorem accV_apply (G : Good m c) (g : Fin 512) (k : Fin 49) : ∀ n : ℕ, n ≤ 10 → accV m c n (ix2 g k)
    = ∑ x ∈ Finset.range (n * 10240), term (fun n => (word m c n).toNat) (wt m c) (withOne (vect m c) k) g.val x
  | 0, _ => by
    rw [Nat.zero_mul, Finset.range_zero, Finset.sum_empty]
    exact pay13_apply g k
  | n + 1, h => by
    have hn : n < cfg0.N := by show n < 10; omega
    have e : accV m c (n + 1) = nextV m c ⟨n, hn⟩ (accV m c n) := by
      show (if h : n < cfg0.N then nextV m c ⟨n, h⟩ (accV m c n) else accV m c n) = _
      rw [dif_pos hn]
    rw [e, nextV_apply m c G, Nat.succ_mul, Finset.sum_range_add, ← accV_apply G g k n (by omega), Finset.sum_range]
    refine congrArg (fun z : EReal => z + _) ?_
    by_cases h0 : n = 0
    · subst h0
      exact ite_self _ ▸ rfl
    · rw [if_neg fun q => h0 ((isFirst_iff ⟨n, hn⟩).mp q)]

/-- The terms of all ten blocks are those of the table's rows. -/
theorem all_terms (id : Fin 100000 → ℕ) (e v : Fin 100000 → EReal) (g : ℕ) :
    (∑ x ∈ Finset.range (10 * 10240), term id e v g x) = ∑ n : Fin 100000, if id n = g then (e n * v n : EReal) else 0 := by
  rw [show 10 * 10240 = 100000 + 2400 from rfl, Finset.sum_range_add, Finset.sum_eq_zero (s := Finset.range 2400) fun x _ => ?_, add_zero,
    Finset.sum_range]
  · refine Finset.sum_congr rfl fun n _ => ?_
    unfold term
    rw [dif_pos n.isLt]
  · unfold term
    rw [dif_neg (by omega)]

/-- The scalar accumulator at the end. -/
theorem accS_end (G : Good m c) (g : Fin 512) (d : Fin 128) : accS m c 10 (ix2 g d)
    = ∑ n : Fin 100000, if (word m c n).toNat = g.val then (wt m c n * scal m c n d : EReal) else 0 :=
  (accS_apply m c G g d 10 le_rfl).trans (all_terms _ _ _ _)

/-- The vector accumulator at the end. -/
theorem accV_end (G : Good m c) (g : Fin 512) (k : Fin 49) : accV m c 10 (ix2 g k)
    = ∑ n : Fin 100000, if (word m c n).toNat = g.val then (wt m c n * withOne (vect m c) k n : EReal) else 0 :=
  (accV_apply m c G g k 10 le_rfl).trans (all_terms _ _ _ _)

end Cert.KernelIdeal.Gen

end
-- ==== Proof.Spec.lean ====
/-
  The network both programs compute, entry by entry over the extended reals: a weight for every row from two layers, the
  weights divided by their group's sum, each group's weighted sum of its rows' features, and two layers on that.
-/
module

public import Idealize.ShloMosaic.Lib.ValueIdx
public import proofs.«01_k».proof.Proof.Pieces

@[expose] public section

noncomputable section

namespace Cert.Proof

open Idealize.ShloMosaic hiding ix1 ix2 ix3
open Idealize.ShloMosaic.ValueIdx

/-- The small number added to a group's sum. -/
def eps : EReal := FloatOps.ofBits (F := Ideal) .f32 0x24E69595#32

/-- The tables of the network, by coordinates. -/
structure Net where
  feat : Fin 100000 → Fin 176 → EReal
  id : Fin 100000 → ℕ
  W1 : Fin 176 → Fin 128 → EReal
  b1 : Fin 128 → EReal
  w2 : Fin 128 → EReal
  b2 : EReal
  M1 : Fin 176 → Fin 128 → EReal
  c1 : Fin 128 → EReal
  M2 : Fin 128 → Fin 128 → EReal
  c2 : Fin 128 → EReal

namespace Net

variable (N : Net)

/-- The gate's hidden layer before its leaky step. -/
def hid (n : Fin 100000) (d : Fin 128) : EReal := (∑ k : Fin 176, (N.feat n k * N.W1 k d : EReal)) + N.b1 d
/-- A row's weight before the division. -/
def e (n : Fin 100000) : EReal := Ideal.exp ((∑ d : Fin 128, (leaky (N.hid n d) * N.w2 d : EReal)) + N.b2)
/-- A group's sum of weights. -/
def gsum (g : ℕ) : EReal := ∑ n : Fin 100000, if N.id n = g then N.e n else 0
/-- A row's weight. -/
def share (n : Fin 100000) : EReal := Ideal.div (N.e n) (N.gsum (N.id n) + eps)
/-- A group's weighted sum of a feature. -/
def emb (g : ℕ) (k : Fin 176) : EReal := ∑ n : Fin 100000, if N.id n = g then (N.share n * N.feat n k : EReal) else 0
/-- The last hidden layer before its leaky step. -/
def z (g : ℕ) (i : Fin 128) : EReal := (∑ k : Fin 176, (N.emb g k * N.M1 k i : EReal)) + N.c1 i
/-- The result. -/
def out (g : ℕ) (j : Fin 128) : EReal := (∑ i : Fin 128, (leaky (N.z g i) * N.M2 i j : EReal)) + N.c2 j

end Net

/-- The network of the programs' arguments. A row's features are its 128 scalars and then its 16 vectors' coordinates. -/
def netOf (a0 : FVec Ideal ⟨2, ![100000, 128]⟩ .f32) (a1 : FVec Ideal ⟨3, ![100000, 16, 3]⟩ .f32) (a2 : IVec ⟨1, ![100000]⟩ 32)
    (a3 : FVec Ideal ⟨2, ![176, 128]⟩ .f32) (a4 : FVec Ideal ⟨1, ![128]⟩ .f32) (a5 : FVec Ideal ⟨2, ![128, 1]⟩ .f32) (a6 : FVec Ideal ⟨1, ![1]⟩ .f32)
    (a7 : FVec Ideal ⟨2, ![176, 128]⟩ .f32) (a8 : FVec Ideal ⟨1, ![128]⟩ .f32) (a9 : FVec Ideal ⟨2, ![128, 128]⟩ .f32) (a10 : FVec Ideal ⟨1, ![128]⟩ .f32) : Net where
  feat n k := if h : k.val < 128 then a0 (ix2 n (⟨k.val, h⟩ : Fin 128))
    else a1 (ix3 n (⟨(k.val - 128) / 3, by have := k.isLt; omega⟩ : Fin 16) (⟨(k.val - 128) % 3, by omega⟩ : Fin 3))
  id n := (a2 (ix1 n)).toNat
  W1 k d := a3 (ix2 k d)
  b1 d := a4 (ix1 d)
  w2 d := a5 (ix2 d (0 : Fin 1))
  b2 := a6 (ix1 (0 : Fin 1))
  M1 k i := a7 (ix2 k i)
  c1 i := a8 (ix1 i)
  M2 i j := a9 (ix2 i j)
  c2 j := a10 (ix1 j)

end Cert.Proof

end
-- ==== Proof.Result.lean ====
/-
  The kernel's result over the extended reals is the network of its arguments: the arrays prepared before the run read back
  to the arguments, the accumulators to the network's sums, and the division by a group's sum moved inside the sum.
-/
module

public import proofs.«01_k».proof.Proof.Sums
public import proofs.«01_k».proof.Proof.Spec

@[expose] public section

set_option maxRecDepth 16384

noncomputable section

namespace Cert.KernelIdeal.Gen

open Idealize.ShloMosaic hiding ix1 ix2 ix3
open Idealize.ShloMosaic.TcCoe Idealize.ShloMosaic.Tactic
open Idealize.ShloMosaic.ValueIdx
open Cert.Proof (leak leaky eps Net netOf)

/-! ## Extended reals -/

/-- The small number is positive. -/
theorem eps_pos : (0 : EReal) < eps := by
  show (0 : EReal) < Ideal.ofBits .f32 0x24E69595#32
  simp [Ideal.ofBits, Ideal.ieee, -EReal.coe_mul]

/-- An exponential is not negative. -/
theorem exp_nonneg (x : EReal) : (0 : EReal) ≤ Ideal.exp x := by
  induction x with
  | bot => exact le_refl _
  | top => exact le_top
  | coe r => exact EReal.coe_nonneg.mpr (Real.exp_pos r).le

/-- A factor that is not negative and not infinite goes into a sum. -/
theorem sum_mul_of {ι : Type} (s : Finset ι) (f : ι → EReal) (y : EReal) (h0 : 0 ≤ y) (ht : y ≠ ⊤) :
    (∑ n ∈ s, f n) * y = ∑ n ∈ s, (f n * y : EReal) := by
  classical
  induction s using Finset.induction_on with
  | empty => rw [Finset.sum_empty, Finset.sum_empty, zero_mul]
  | insert a s ha ih => rw [Finset.sum_insert ha, Finset.sum_insert ha, EReal.right_distrib_of_nonneg_of_ne_top h0 ht, ih]

/-- A group's weighted sum times the reciprocal of its sum of weights is the sum weighted by the shares. -/
theorem emb_eq (N : Net) (g : ℕ) (k : Fin 176) :
    (∑ n : Fin 100000, if N.id n = g then (N.e n * N.feat n k : EReal) else 0) * Ideal.div 1 (N.gsum g + eps) = N.emb g k := by
  have hg : (0 : EReal) ≤ N.gsum g := Finset.sum_nonneg fun n _ => by
    by_cases h : N.id n = g
    · rw [if_pos h]; exact exp_nonneg _
    · rw [if_neg h]
  have hd : (0 : EReal) < N.gsum g + eps := lt_of_lt_of_le eps_pos (le_add_of_nonneg_left hg)
  have e1 : ∀ x : EReal, Ideal.div x (N.gsum g + eps) = x * (N.gsum g + eps)⁻¹ := fun x => by
    unfold Ideal.div
    rw [if_neg hd.ne']
  rw [e1, one_mul, sum_mul_of _ _ _ (EReal.inv_nonneg_of_nonneg hd.le) (EReal.inv_lt_top _).ne]
  unfold Net.emb
  refine Finset.sum_congr rfl fun n _ => ?_
  by_cases h : N.id n = g
  · rw [if_pos h, if_pos h]
    unfold Net.share
    rw [h, e1]
    exact mul_right_comm _ _ _
  · rw [if_neg h, if_neg h, zero_mul]

/-! ## The order of the vector features -/

/-- The place among the 48 vector coordinates of the kernel's row `k`. -/
def perm : Fin 48 ≃ Fin 48 where
  toFun k := ⟨(k.val % 16) * 3 + k.val / 16, by have := k.isLt; omega⟩
  invFun j := ⟨(j.val % 3) * 16 + j.val / 3, by have := j.isLt; omega⟩
  left_inv k := Fin.ext (by
    have := k.isLt
    show ((k.val % 16 * 3 + k.val / 16) % 3) * 16 + (k.val % 16 * 3 + k.val / 16) / 3 = k.val
    omega)
  right_inv j := Fin.ext (by
    have := j.isLt
    show ((j.val % 3 * 16 + j.val / 3) % 16) * 3 + (j.val % 3 * 16 + j.val / 3) / 16 = j.val
    omega)

/-- The column of a scalar feature. -/
def colS (k : Fin 128) : Fin 176 := ⟨k.val, by have := k.isLt; omega⟩
/-- The column of a vector feature, by the kernel's order. -/
def colV (k : Fin 48) : Fin 176 := ⟨128 + (perm k).val, by have := (perm k).isLt; omega⟩

/-- A sum over the 176 columns, in the kernel's order. -/
theorem sum_cols (f : Fin 176 → EReal) : (∑ k : Fin 176, f k) = (∑ k : Fin 128, f (colS k)) + ∑ k : Fin 48, f (colV k) := by
  refine (Fin.sum_univ_add (a := 128) (b := 48) f).trans (congrArg₂ (fun y z : EReal => y + z) rfl ?_)
  exact (Equiv.sum_comp perm (fun j : Fin 48 => f (Fin.natAdd 128 j))).symm

/-- Columns cut out of a matrix. -/
theorem cut_cols {α : Type} {R C K o : ℕ} (x : (⟨2, ![R, C]⟩ : Shape).Idx → α) (h : (⟨2, ![R, C]⟩ : Shape).Slices ![0, o] ⟨2, ![R, K]⟩)
    (r : Fin R) (k : Fin K) (c : Fin C) (hc : c.val = o + k.val) : extractStridedSlice ⟨2, ![R, K]⟩ ![0, o] x h (ix2 r k) = x (ix2 r c) :=
  extractStridedSlice_apply _ _ _ _ _ fun a => by
    match a with
    | ⟨0, _⟩ => exact (Nat.zero_add _).symm
    | ⟨1, _⟩ => exact hc

/-- Rows cut out of a matrix. -/
theorem cut_rows {α : Type} {R C K o : ℕ} (x : (⟨2, ![R, C]⟩ : Shape).Idx → α) (h : (⟨2, ![R, C]⟩ : Shape).Slices ![o, 0] ⟨2, ![K, C]⟩)
    (k : Fin K) (r : Fin R) (hr : r.val = o + k.val) (c : Fin C) : extractStridedSlice ⟨2, ![K, C]⟩ ![o, 0] x h (ix2 k c) = x (ix2 r c) :=
  extractStridedSlice_apply _ _ _ _ _ fun a => by
    match a with
    | ⟨0, _⟩ => exact hr
    | ⟨1, _⟩ => exact (Nat.zero_add _).symm

/-- A reordered matrix's row is the row of the vector feature at its place. -/
theorem permuted_apply (X : Vec Ideal S176x128 .f32) (k : Fin 48) (d : Fin 128) : permuted (F := Ideal) X (ix2 k d) = X (ix2 (colV k) d) := by
  have hk := k.isLt
  unfold permuted
  refine (shapeCast_apply _ _ (ix2 k d) (ix3 (⟨k.val / 16, by omega⟩ : Fin 3) (⟨k.val % 16, by omega⟩ : Fin 16) d) ?_).trans ?_
  · rw [Shape.rowMajor_val_three, Shape.rowMajor_val_two]
    show (k.val / 16 * 16 + k.val % 16) * 128 + d.val = k.val * 128 + d.val
    omega
  refine (transpose_apply _ _ _ _ (ix3 (⟨k.val % 16, by omega⟩ : Fin 16) (⟨k.val / 16, by omega⟩ : Fin 3) d) fun a => ?_).trans ?_
  · match a with
    | ⟨0, _⟩ => rfl
    | ⟨1, _⟩ => rfl
    | ⟨2, _⟩ => rfl
  refine (shapeCast_apply _ _ _ (ix2 (perm k) d) ?_).trans ?_
  · rw [Shape.rowMajor_val_three, Shape.rowMajor_val_two]
    rfl
  exact cut_rows X _ (perm k) (colV k) rfl d

variable (m : (ℓ : Loc nD τ sig) → Buf (Elt Ideal) ℓ) (c : Dev nD)

/-- The network of the kernel's arguments. -/
def net : Net := netOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9)) (m ((c : Thread nD τ).loc main_arg10))

/-! ## The prepared arrays -/

/-- A scalar feature. -/
theorem scal_eq (n : Fin 100000) (k : Fin 128) : scal m c n k = (net m c).feat n (colS k) := by
  show _ = dite _ _ _
  rw [dif_pos (show (colS k).val < 128 from k.isLt)]
  rfl

/-- A vector feature. -/
theorem vect_eq (n : Fin 100000) (k : Fin 48) : vect m c n k = (net m c).feat n (colV k) := by
  have hk := k.isLt
  have hp : (perm k).val = (k.val % 16) * 3 + k.val / 16 := rfl
  show _ = dite _ _ _
  rw [dif_neg (show ¬ (colV k).val < 128 from fun h => absurd (show 128 + (perm k).val < 128 from h) (by omega))]
  unfold vect
  rw [V_vec]
  refine (shapeCast_apply _ _ (ix2 k n) (ix3 (⟨k.val / 16, by omega⟩ : Fin 3) (⟨k.val % 16, by omega⟩ : Fin 16) n) ?_).trans ?_
  · rw [Shape.rowMajor_val_three, Shape.rowMajor_val_two]
    show (k.val / 16 * 16 + k.val % 16) * 100000 + n.val = k.val * 100000 + n.val
    omega
  refine (transpose_apply _ _ _ _ (ix3 n (⟨k.val % 16, by omega⟩ : Fin 16) (⟨k.val / 16, by omega⟩ : Fin 3)) fun a => ?_).trans ?_
  · match a with
    | ⟨0, _⟩ => rfl
    | ⟨1, _⟩ => rfl
    | ⟨2, _⟩ => rfl
  refine congrArg (m ((c : Thread nD τ).loc main_arg1)) (funext fun a => Fin.ext ?_)
  match a with
  | ⟨0, _⟩ => rfl
  | ⟨1, _⟩ => exact (show k.val % 16 = (128 + (perm k).val - 128) / 3 by omega)
  | ⟨2, _⟩ => exact (show k.val / 16 = (128 + (perm k).val - 128) % 3 by omega)

/-- The gate's first matrix at a scalar feature. -/
theorem w1s_eq (k d : Fin 128) : (V m c main_v5 (ix2 k d) : EReal) = (net m c).W1 (colS k) d := by
  rw [V_w1s, truncf_apply]
  exact cut_rows _ _ k (colS k) (Nat.zero_add _).symm d

/-- The gate's first matrix at a vector feature. -/
theorem w1v_eq (k : Fin 48) (d : Fin 128) : (V m c main_v10 (ix2 k d) : EReal) = (net m c).W1 (colV k) d := by
  rw [V_w1v, truncf_apply]
  exact permuted_apply _ k d

/-- The gate's second matrix. -/
theorem w2_eq (d : Fin 128) : (V m c main_v11 (ix2 d (0 : Fin 1)) : EReal) = (net m c).w2 d := by
  rw [V_w2, truncf_apply]
  rfl

/-- A vector made a one-row matrix. -/
theorem row_cast {α : Type} {n : ℕ} (x : (⟨1, ![n]⟩ : Shape).Idx → α) (h : (⟨1, ![n]⟩ : Shape).ShapeCasts ⟨2, ![1, n]⟩) (d : Fin n) :
    shapeCast ⟨2, ![1, n]⟩ x h (ix2 (0 : Fin 1) d) = x (ix1 d) := by
  refine shapeCast_apply _ _ _ _ ?_
  rw [Shape.rowMajor_val_two, Shape.rowMajor_val_one]
  show d.val = 0 * n + d.val
  omega

/-- The gate's first bias. -/
theorem b1_eq (d : Fin 128) : (V m c main_v42 (ix2 (0 : Fin 1) d) : EReal) = (net m c).b1 d := by
  rw [V_b1]
  exact row_cast _ _ d

/-- The gate's second bias. -/
theorem b2_eq : (V m c main_v43 (ix2 (0 : Fin 1) (0 : Fin 1)) : EReal) = (net m c).b2 := by
  rw [V_b2]
  exact row_cast _ _ (0 : Fin 1)

/-- The last layers' first matrix at a scalar feature. -/
theorem m1s_eq (k d : Fin 128) (k' : Fin 176) (hk : k'.val = k.val) : (V m c main_v17 (ix2 k' d) : EReal) = (net m c).M1 (colS k) d := by
  rw [V_mw1]
  refine (stack_upper _ _ _ k k' hk d).trans ?_
  exact cut_rows _ _ k (colS k) (Nat.zero_add _).symm d

/-- The last layers' first matrix at a vector feature. -/
theorem m1v_eq (k : Fin 48) (d : Fin 128) (k' : Fin 176) (hk : k.val + 128 = k'.val) : (V m c main_v17 (ix2 k' d) : EReal) = (net m c).M1 (colV k) d := by
  rw [V_mw1]
  refine (stack_lower _ _ _ k k' hk d).trans ?_
  exact permuted_apply _ k d

/-- The last layers' first bias. -/
theorem c1_eq (d : Fin 128) : (V m c main_v44 (ix2 (0 : Fin 1) d) : EReal) = (net m c).c1 d := by
  rw [V_mb1]
  exact row_cast _ _ d

/-- The last layers' second bias. -/
theorem c2_eq (d : Fin 128) : (V m c main_v45 (ix2 (0 : Fin 1) d) : EReal) = (net m c).c2 d := by
  rw [V_mb2]
  exact row_cast _ _ d

/-- A row's weight is the network's. -/
theorem wt_eq (n : Fin 100000) : wt m c n = (net m c).e n := by
  unfold wt weight Net.e
  refine congrArg Ideal.exp (congrArg₂ (fun y z : EReal => y + z) (Finset.sum_congr rfl fun d _ => ?_) (b2_eq m c))
  refine (congrArg₂ (fun y z : EReal => y * leaky z) (w2_eq m c d) ?_).trans (mul_comm _ _)
  unfold Net.hid
  rw [sum_cols]
  refine congrArg₂ (fun y z : EReal => y + z) (congrArg₂ (fun y z : EReal => y + z) (Finset.sum_congr rfl fun k _ => ?_) (Finset.sum_congr rfl fun k _ => ?_)) (b1_eq m c d)
  · exact congrArg₂ (fun y z : EReal => y * z) (scal_eq m c n k) (w1s_eq m c k d)
  · exact congrArg₂ (fun y z : EReal => y * z) (vect_eq m c n k) (w1v_eq m c k d)

/-! ## The last layers -/

/-- The result from the accumulators, at an entry. -/
theorem p4 (q : Vec Ideal S512x49 .f32) (p : Vec Ideal S512x128 .f32) (x12 : Vec Ideal S176x128 .f32) (x13 : Vec Ideal S1x128 .f32)
    (x14 : Vec Ideal S128x128 .f32) (x15 : Vec Ideal S1x128 .f32) (g : Fin 512) (j : Fin 128)
    (Y : Fin 176 → EReal) (hS : ∀ (k : Fin 128) (k' : Fin 176), k'.val = k.val → Y k' = p (ix2 g k))
    (hV : ∀ (k : Fin 48) (k' : Fin 176), k.val + 128 = k'.val → Y k' = q (ix2 g (⟨k.val, by have := k.isLt; omega⟩ : Fin 49))) :
    k0_pay4 (F := Ideal) q p x12 x13 x14 x15 (ix2 g j)
      = (∑ i : Fin 128, (leaky ((∑ k : Fin 176, ((Y k * Ideal.div 1 (q (ix2 g (48 : Fin 49)) + eps)) * x12 (ix2 k i) : EReal)) + x13 (ix2 (0 : Fin 1) i)) * x14 (ix2 i j) : EReal))
        + x15 (ix2 (0 : Fin 1) j) := by
  unfold k0_pay4
  rw [addf_apply, shapeCast_self, shapeCast_self, shapeCast_self]
  refine congrArg₂ (fun y z : EReal => y + z) ((plain_zero (φ₁ := .f32) (φ₂ := .f32) none _ rfl _ _ g j).trans (Finset.sum_congr rfl fun i _ => ?_))
    (broadcastTo_apply _ _ (ix2 g j) (ix2 (0 : Fin 1) j) (fun a => by match a with | ⟨0, _⟩ => rfl | ⟨1, _⟩ => rfl))
  refine congrArg (fun y : EReal => y * x14 (ix2 i j)) ?_
  rw [leaky_at, addf_apply]
  refine congrArg leaky (congrArg₂ (fun y z : EReal => y + z) ((plain_zero (φ₁ := .f32) (φ₂ := .f32) none _ rfl _ _ g i).trans (Finset.sum_congr rfl fun k _ => ?_))
    (broadcastTo_apply _ _ (ix2 g i) (ix2 (0 : Fin 1) i) (fun a => by match a with | ⟨0, _⟩ => rfl | ⟨1, _⟩ => rfl)))
  refine congrArg (fun y : EReal => y * x12 (ix2 k i)) ?_
  rw [mulf_apply]
  refine congrArg₂ (fun y z : EReal => y * z) ?_ ?_
  · by_cases hk : k.val < 128
    · exact (beside_left _ _ _ (⟨k.val, hk⟩ : Fin 128) k rfl g).trans (hS (⟨k.val, hk⟩ : Fin 128) k rfl).symm
    · have h' := k.isLt
      have hb : (⟨k.val - 128, by omega⟩ : Fin 48).val + 128 = k.val := by show k.val - 128 + 128 = k.val; omega
      refine (beside_right _ _ _ (⟨k.val - 128, by omega⟩ : Fin 48) k hb g).trans ?_
      refine (cut_cols q _ g (⟨k.val - 128, by omega⟩ : Fin 48) (⟨k.val - 128, by omega⟩ : Fin 49) (Nat.zero_add _).symm).trans ?_
      exact (hV (⟨k.val - 128, by omega⟩ : Fin 48) k hb).symm
  · refine (broadcastTo_apply _ _ (ix2 g k) (ix2 g (0 : Fin 1)) (fun a => by match a with | ⟨0, _⟩ => rfl | ⟨1, _⟩ => rfl)).trans ?_
    rw [divf_apply, addf_apply]
    refine congrArg₂ Ideal.div Ideal.ofBits_one_f32 (congrArg (fun y : EReal => y + eps) ?_)
    exact cut_cols q _ g (0 : Fin 1) (48 : Fin 49) rfl

/-- The kernel's result at an entry is the network's. -/
theorem result_apply (G : Good m c) (t : Fin cfg0.N) (ht : t.val = 9) (g : Fin 512) (j : Fin 128) :
    result m c t (ix2 g j) = (net m c).out g.val j := by
  unfold result
  rw [iblk_11, iblk_12, iblk_13, iblk_14, ht]
  have hsum : accV m c 10 (ix2 g (48 : Fin 49)) = (net m c).gsum g.val := by
    rw [accV_end m c G]
    unfold Net.gsum
    refine Finset.sum_congr rfl fun n _ => if_congr Iff.rfl ?_ rfl
    rw [wt_eq, show withOne (vect m c) (48 : Fin 49) n = 1 from dif_neg (by decide), mul_one]
  have hS : ∀ k : Fin 128, accS m c 10 (ix2 g k) = ∑ n : Fin 100000, if (net m c).id n = g.val then ((net m c).e n * (net m c).feat n (colS k) : EReal) else 0 := fun k => by
    rw [accS_end m c G]
    refine Finset.sum_congr rfl fun n _ => if_congr Iff.rfl ?_ rfl
    rw [wt_eq, scal_eq]
  have hV : ∀ k : Fin 48, accV m c 10 (ix2 g (⟨k.val, by have := k.isLt; omega⟩ : Fin 49))
      = ∑ n : Fin 100000, if (net m c).id n = g.val then ((net m c).e n * (net m c).feat n (colV k) : EReal) else 0 := fun k => by
    rw [accV_end m c G]
    refine Finset.sum_congr rfl fun n _ => if_congr Iff.rfl ?_ rfl
    rw [wt_eq, ← vect_eq]
    exact congrArg (fun y : EReal => (net m c).e n * y) (dif_pos k.isLt)
  refine (p4 _ _ _ _ _ _ g j
    (fun k => if h : k.val < 128 then accS m c 10 (ix2 g (⟨k.val, h⟩ : Fin 128)) else accV m c 10 (ix2 g (⟨k.val - 128, by have := k.isLt; omega⟩ : Fin 49)))
    (fun k k' hk => ?_) (fun k k' hk => ?_)).trans ?_
  · have h := k.isLt
    rw [dif_pos (show k'.val < 128 by omega)]
    exact congrArg (fun x => accS m c 10 (ix2 g x)) (Fin.ext hk)
  · have h := k.isLt
    rw [dif_neg (show ¬ k'.val < 128 by omega)]
    exact congrArg (fun x => accV m c 10 (ix2 g x)) (Fin.ext (by show k'.val - 128 = k.val; omega))
  · rw [hsum]
    unfold Net.out
    refine congrArg₂ (fun y z : EReal => y + z) (Finset.sum_congr rfl fun i _ => ?_) (c2_eq m c j)
    refine congrArg₂ (fun y z : EReal => leaky y * z) ?_ rfl
    unfold Net.z
    refine congrArg₂ (fun y z : EReal => y + z) ?_ (c1_eq m c i)
    rw [sum_cols (fun k => ((net m c).emb g.val k * (net m c).M1 k i : EReal))]
    refine (Fin.sum_univ_add (a := 128) (b := 48) _).trans (congrArg₂ (fun y z : EReal => y + z) (Finset.sum_congr rfl fun k _ => ?_) (Finset.sum_congr rfl fun k _ => ?_))
    · refine congrArg₂ (fun y z : EReal => y * z) ?_ (m1s_eq m c k i (Fin.castAdd 48 k) rfl)
      rw [dif_pos (show (Fin.castAdd 48 k).val < 128 from k.isLt)]
      exact (congrArg (fun y : EReal => y * Ideal.div 1 ((net m c).gsum g.val + eps)) (hS k)).trans (emb_eq (net m c) g.val (colS k))
    · have e : (Fin.natAdd 128 k).val = 128 + k.val := rfl
      refine congrArg₂ (fun y z : EReal => y * z) ?_ (m1v_eq m c k i (Fin.natAdd 128 k) (by omega))
      rw [dif_neg (show ¬ (Fin.natAdd 128 k).val < 128 by omega)]
      refine (congrArg (fun y : EReal => y * Ideal.div 1 ((net m c).gsum g.val + eps)) ?_).trans (emb_eq (net m c) g.val (colV k))
      exact (congrArg (fun x => accV m c 10 (ix2 g x)) (Fin.ext (by show (Fin.natAdd 128 k).val - 128 = k.val; omega))).trans (hV k)

end Cert.KernelIdeal.Gen

end
-- ==== Proof.Final.lean ====
/-
  What the run leaves in the result array: the block the last grid point writes back, which is the network of the arguments.
-/
module

public import Idealize.ShloMosaic.Lib.Pipeline.ValueKit
public import proofs.«01_k».proof.Proof.Result
public import proofs.«01_k».proof.Proof.Frames

@[expose] public section

set_option maxRecDepth 16384

noncomputable section

namespace Cert.KernelIdeal.Gen

open Idealize.ShloMosaic hiding ix1 ix2 ix3
open Idealize.ShloMosaic.TcCoe Idealize.ShloMosaic.Tactic
open Idealize.ShloMosaic.ValueIdx
open Idealize.SL.Sem

variable (m : (ℓ : Loc nD τ sig) → Buf (Elt Ideal) ℓ) (ρ : Dev nD → PrngReg)

/-- The result array ends holding the last grid point's block. -/
theorem final_out (c : Dev nD) : (dats m 0 c).arrAt 15 cfg0.N = result m c t0_9 := by
  refine (dats m 0 c).arrAt_eq_of_after_last 15 t0_9 (by decide +kernel) _ fun j => ?_
  blk_simp
  exact congrFun (after0_15 m c t0_9) j

/-- The run ends with the result array holding the last block. -/
theorem run_value (hs : Side m) : θ_run defs (onTc (τ := τ) (main (F := Ideal))) ⟨m, fun _ => 0, ρ⟩
    (fun r => ∀ c : Dev nD, r.2.mem ((c.tc : Thread nD τ).loc main_v46) = result m c t0_9) :=
  (θ_run defs _ _).mono (fun _ h c => ((h c).1 15).trans (final_out m c)) (run_main m ρ hs)

end Cert.KernelIdeal.Gen

end
-- ==== Proof.Ref.lean ====
/-
  The reference's result, entry by entry: the network of its arguments.
-/
module

public import proofs.«01_k».proof.Proof.Spec
public import proofs.«01_k».proof.Proof.Gen.ReferenceIdeal.Run
public import Idealize.ShloMosaic.Lib.Routing.Ops
public import Idealize.ShloMosaic.Lib.Routing.OpsSet
public import Idealize.ShloMosaic.Lib.Routing.OpsPair
public import Idealize.ShloMosaic.Lib.StackMember
public import Idealize.ShloMosaic.Lib.ValueIdxRank1

@[expose] public section

set_option maxRecDepth 16384

noncomputable section

namespace Cert.ReferenceIdeal.Value

open Cert.ReferenceIdeal Cert.ReferenceIdeal.Gen
open Idealize.ShloMosaic hiding ix1 ix2 ix3
open Idealize.ShloMosaic.TcCoe
open Idealize.ShloMosaic.ValueIdx
open Cert.Proof (leak leaky eps netOf Net)

variable (a0 : FVec Ideal S100000x128 .f32) (a1 : FVec Ideal S100000x16x3 .f32) (a2 : IVec S100000 32) (a3 : FVec Ideal S176x128 .f32)
  (a4 : FVec Ideal S128 .f32) (a5 : FVec Ideal S128x1 .f32) (a6 : FVec Ideal S1 .f32) (a7 : FVec Ideal S176x128 .f32)
  (a8 : FVec Ideal S128 .f32) (a9 : FVec Ideal S128x128 .f32) (a10 : FVec Ideal S128 .f32)

/-! ## The stages -/

/-- The rows' features. -/
def rX : FVec Ideal S100000x176 .f32 :=
  concatenate S100000x176 1 [⟨S100000x128, a0⟩, ⟨S100000x48, shapeCast S100000x48 a1 shapeCasts_S100000x16x3_S100000x48⟩] concatenates_S100000x128_S100000x48_S100000x176_d1

/-- The gate's hidden layer before its leaky step. -/
def rH : FVec Ideal S100000x128 .f32 :=
  addf (Host.dotGeneral dot_S100000x176_S176x128_S100000x128_1_0_0_1_n_n none (rX a0 a1) a3)
    (broadcastInDim S100000x128 ![0, 1] bcast_S1x128_S100000x128_0_1 (broadcastInDim S1x128 ![1] bcast_S128_S1x128_1 a4))

/-- The leaky step on the rows. -/
def rL (H : FVec Ideal S100000x128 .f32) : FVec Ideal S100000x128 .f32 :=
  select (cmpf .oge H (broadcastInDim S100000x128 ![] bcast_S_S100000x128 (constant S_ .f32 0x00000000#32))) H
    (mulf (broadcastInDim S100000x128 ![] bcast_S_S100000x128 (id (constant S_ .f32 0x3C23D70A#32))) H)

/-- The rows' weights before the division. -/
def rE : FVec Ideal S100000 .f32 :=
  Host.exp (shapeCast S100000 (addf (Host.dotGeneral dot_S100000x128_S128x1_S100000x1_1_0_0_1_n_n none (rL (rH a0 a1 a3 a4)) a5)
    (broadcastInDim S100000x1 ![0, 1] bcast_S1x1_S100000x1_0_1 (broadcastInDim S1x1 ![1] bcast_S1_S1x1_1 a6))) shapeCasts_S100000x1_S100000)

/-- The groups' sums of weights. -/
def rG (E : FVec Ideal S100000 .f32) : FVec Ideal S512 .f32 :=
  Host.scatterAdd scatter_S512_S100000x1_S100000_n_0_0_1 (broadcastInDim S512 ![] bcast_S_S512 (constant S_ .f32 0x00000000#32))
    (broadcastInDim S100000x1 ![0] bcast_S100000_S100000x1_0 a2) E

/-- The rows' weights. -/
def rW (E : FVec Ideal S100000 .f32) : FVec Ideal S100000 .f32 :=
  Host.divf E (addf (Host.gather gather_S512_S100000x1_S100000_n_0_n_n_0_1_1 (rG a2 E)
    (broadcastInDim S100000x1 ![0] bcast_S100000_S100000x1_0
      (select (cmpi .slt a2 (broadcastInDim S100000 ![] bcast_S_S100000 (constantI S_ 32 0#32)))
        (addi a2 (broadcastInDim S100000 ![] bcast_S_S100000 (constantI S_ 32 512#32))) a2)))
    (broadcastInDim S100000 ![] bcast_S_S100000 (constant S_ .f32 0x24E69595#32)))

/-- The groups' weighted sums. -/
def rEmb (w : FVec Ideal S100000 .f32) (X : FVec Ideal S100000x176 .f32) : FVec Ideal S512x176 .f32 :=
  Host.scatterAdd scatter_S512x176_S100000x1_S100000x176_1_0_0_1 (broadcastInDim S512x176 ![] bcast_S_S512x176 (constant S_ .f32 0x00000000#32))
    (broadcastInDim S100000x1 ![0] bcast_S100000_S100000x1_0 a2)
    (mulf (broadcastInDim S100000x176 ![0, 1] bcast_S100000x1_S100000x176_0_1 (broadcastInDim S100000x1 ![0] bcast_S100000_S100000x1_0 w)) X)

/-- The last hidden layer before its leaky step. -/
def rZ (M : FVec Ideal S512x176 .f32) : FVec Ideal S512x128 .f32 :=
  addf (Host.dotGeneral dot_S512x176_S176x128_S512x128_1_0_0_1_n_n none M a7)
    (broadcastInDim S512x128 ![0, 1] bcast_S1x128_S512x128_0_1 (broadcastInDim S1x128 ![1] bcast_S128_S1x128_1 a8))

/-- The leaky step on the groups, and the last layer. -/
def rOut (Z : FVec Ideal S512x128 .f32) : FVec Ideal S512x128 .f32 :=
  addf (Host.dotGeneral dot_S512x128_S128x128_S512x128_1_0_0_1_n_n none
    (select (cmpf .oge Z (broadcastInDim S512x128 ![] bcast_S_S512x128 (constant S_ .f32 0x00000000#32))) Z
      (mulf (broadcastInDim S512x128 ![] bcast_S_S512x128 (id (constant S_ .f32 0x3C23D70A#32))) Z)) a9)
    (broadcastInDim S512x128 ![0, 1] bcast_S1x128_S512x128_0_1 (broadcastInDim S1x128 ![1] bcast_S128_S1x128_1 a10))

/-- The reference's result is the stages one after another. -/
theorem res_stages (m : (ℓ : Loc nD τ sig) → Buf (Elt Ideal) ℓ) (c : Dev nD) :
    res_main_v40 (F := Ideal) m c
      = rOut (m ((c.tc : Thread nD τ).loc main_arg9)) (m ((c.tc : Thread nD τ).loc main_arg10))
          (rZ (m ((c.tc : Thread nD τ).loc main_arg7)) (m ((c.tc : Thread nD τ).loc main_arg8))
            (rEmb (m ((c.tc : Thread nD τ).loc main_arg2))
              (rW (m ((c.tc : Thread nD τ).loc main_arg2))
                (rE (m ((c.tc : Thread nD τ).loc main_arg0)) (m ((c.tc : Thread nD τ).loc main_arg1)) (m ((c.tc : Thread nD τ).loc main_arg3))
                  (m ((c.tc : Thread nD τ).loc main_arg4)) (m ((c.tc : Thread nD τ).loc main_arg5)) (m ((c.tc : Thread nD τ).loc main_arg6))))
              (rX (m ((c.tc : Thread nD τ).loc main_arg0)) (m ((c.tc : Thread nD τ).loc main_arg1))))) := by
  unfold res_main_v40
  rfl

/-! ## The stages entry by entry -/

/-- A row's feature. -/
theorem rX_apply (n : Fin 100000) (k : Fin 176) :
    rX a0 a1 (ix2 n k) = (netOf a0 a1 a2 a3 a4 a5 a6 a7 a8 a9 a10).feat n k := by
  unfold rX
  show _ = if h : k.val < 128 then a0 (ix2 n (⟨k.val, h⟩ : Fin 128)) else _
  by_cases h : k.val < 128
  · rw [dif_pos h]
    exact KernelIdeal.Gen.beside_left _ _ _ (⟨k.val, h⟩ : Fin 128) k rfl n
  · rw [dif_neg h]
    have hk := k.isLt
    refine (KernelIdeal.Gen.beside_right _ _ _ (⟨k.val - 128, by omega⟩ : Fin 48) k (by show k.val - 128 + 128 = k.val; omega) n).trans ?_
    refine shapeCast_apply a1 _ _ _ ?_
    rw [Shape.rowMajor_val_three, Shape.rowMajor_val_two]
    show (n.val * 16 + (k.val - 128) / 3) * 3 + (k.val - 128) % 3 = n.val * 48 + (k.val - 128)
    omega

/-- A row's hidden layer. -/
theorem rH_apply (n : Fin 100000) (d : Fin 128) :
    rH a0 a1 a3 a4 (ix2 n d) = (netOf a0 a1 a2 a3 a4 a5 a6 a7 a8 a9 a10).hid n d := by
  unfold rH
  rw [addf_apply]
  refine congrArg₂ (fun y z : EReal => y + z) ((StackMember.dotGeneral_plain_apply (φ₁ := .f32) (φ₂ := .f32) none _ _ n d).trans (Finset.sum_congr rfl fun k _ => ?_))
    (Routing.bcCols _ _ a4 n d)
  rw [rX_apply a0 a1 a2 a3 a4 a5 a6 a7 a8 a9 a10]
  rfl

/-- The leaky step at an entry. -/
theorem rL_apply (H : FVec Ideal S100000x128 .f32) (n : Fin 100000) (d : Fin 128) : rL H (ix2 n d) = leaky (H (ix2 n d)) := rfl

/-- A row's weight before the division. -/
theorem rE_apply (n : Fin 100000) : rE a0 a1 a3 a4 a5 a6 (ix1 n) = (netOf a0 a1 a2 a3 a4 a5 a6 a7 a8 a9 a10).e n := by
  unfold rE
  refine congrArg Ideal.exp ((Routing.cast21 (a := 100000) (b := 1) _ _ n (0 : Fin 1) n (by show n.val = n.val * 1 + 0; omega)).trans ?_)
  rw [addf_apply]
  refine congrArg₂ (fun y z : EReal => y + z) ((StackMember.dotGeneral_plain_apply (φ₁ := .f32) (φ₂ := .f32) none _ _ n (0 : Fin 1)).trans (Finset.sum_congr rfl fun d _ => ?_))
    (Routing.bcCols _ _ a6 n (0 : Fin 1))
  rw [rL_apply, rH_apply a0 a1 a2 a3 a4 a5 a6 a7 a8 a9 a10]
  rfl

/-- A word below 512 read with its sign is itself. -/
theorem toInt_small (x : BitVec 32) (h : x.toNat < 512) : x.toInt = (x.toNat : Int) := by
  rw [BitVec.toInt_eq_toNat_cond]
  omega

/-- Where a row's weight lands: at its group. -/
theorem lands1 (idx : IVec S100000x1 32) (n : Fin 100000) (g : Fin 512) :
    scatter_S512_S100000x1_S100000_n_0_0_1.resultIdx? (ix1 n) idx = some (ix1 g) ↔ (idx (ix2 n (0 : Fin 1))).toInt = (g.val : Int) := by
  refine (Routing.resultIdx?_ix1 scatter_S512_S100000x1_S100000_n_0_0_1 (ix1 n) idx g).trans ?_
  have hw : scatter_S512_S100000x1_S100000_n_0_0_1.window (ix1 n) 0 = 0 := dif_neg (by decide)
  have hs : scatter_S512_S100000x1_S100000_n_0_0_1.start (ix1 n) idx 0 = (idx (ix2 n (0 : Fin 1))).toInt := by
    refine (dif_pos (by decide)).trans (congrArg (fun j => (idx j).toInt) (funext fun b => Fin.ext ?_))
    match b with
    | ⟨0, _⟩ => rfl
    | ⟨1, _⟩ => rfl
  rw [hw, hs]
  simp

/-- Where a row's feature lands: in its group, at its place. -/
theorem lands2 (idx : IVec S100000x1 32) (n : Fin 100000) (j : Fin 176) (g : Fin 512) (k : Fin 176) :
    scatter_S512x176_S100000x1_S100000x176_1_0_0_1.resultIdx? (ix2 n j) idx = some (ix2 g k)
      ↔ (idx (ix2 n (0 : Fin 1))).toInt = (g.val : Int) ∧ j = k := by
  refine (Routing.resultIdx?_ix2 scatter_S512x176_S100000x1_S100000x176_1_0_0_1 (ix2 n j) idx g k).trans ?_
  have hw0 : scatter_S512x176_S100000x1_S100000x176_1_0_0_1.window (ix2 n j) 0 = 0 := dif_neg (by decide)
  have hw1 : scatter_S512x176_S100000x1_S100000x176_1_0_0_1.window (ix2 n j) 1 = j.val := (dif_pos (by decide)).trans rfl
  have hs1 : scatter_S512x176_S100000x1_S100000x176_1_0_0_1.start (ix2 n j) idx 1 = 0 := dif_neg (by decide)
  have hs0 : scatter_S512x176_S100000x1_S100000x176_1_0_0_1.start (ix2 n j) idx 0 = (idx (ix2 n (0 : Fin 1))).toInt := by
    refine (dif_pos (by decide)).trans (congrArg (fun j => (idx j).toInt) (funext fun b => Fin.ext ?_))
    match b with
    | ⟨0, _⟩ => rfl
    | ⟨1, _⟩ => rfl
  rw [hw0, hw1, hs0, hs1, Fin.ext_iff]
  simp

/-- A group's sum of weights. -/
theorem rG_apply (h2 : ∀ n : Fin 100000, (a2 (ix1 n)).toNat < 512) (E : FVec Ideal S100000 .f32) (g : Fin 512) :
    rG a2 E (ix1 g) = ∑ n : Fin 100000, if (a2 (ix1 n)).toNat = g.val then (E (ix1 n) : EReal) else 0 := by
  unfold rG
  show (broadcastInDim S512 ![] bcast_S_S512 (constant (F := Ideal) S_ .f32 0x00000000#32) (ix1 g) : EReal)
    + ∑ j ∈ Finset.univ.filter (fun j => scatter_S512_S100000x1_S100000_n_0_0_1.resultIdx? j (broadcastInDim S100000x1 ![0] bcast_S100000_S100000x1_0 a2) = some (ix1 g)), (E j : EReal) = _
  have z : (broadcastInDim S512 ![] bcast_S_S512 (constant (F := Ideal) S_ .f32 0x00000000#32) (ix1 g) : EReal) = 0 := Ideal.ofBits_zero_f32
  rw [z, zero_add, Finset.sum_filter, ← Equiv.sum_comp (idxEquiv1 (n := 100000)).symm]
  refine Finset.sum_congr rfl fun n _ => ?_
  refine if_congr ((lands1 _ n g).trans ?_) rfl rfl
  rw [Routing.bcCol, toInt_small _ (h2 n)]
  exact Nat.cast_inj

/-- A row's weight. -/
theorem rW_apply (h2 : ∀ n : Fin 100000, (a2 (ix1 n)).toNat < 512) (E : FVec Ideal S100000 .f32) (n : Fin 100000) :
    rW a2 E (ix1 n) = Ideal.div (E (ix1 n)) (rG a2 E (ix1 (⟨(a2 (ix1 n)).toNat, h2 n⟩ : Fin 512)) + eps) := by
  unfold rW
  rw [hostDivf_apply, addf_apply]
  refine congrArg (Ideal.div (E (ix1 n))) (congrArg (fun y : EReal => y + eps) ?_)
  refine Routing.gather_take1 _ rfl rfl rfl rfl _ _ n _ ?_ (by decide)
  rw [Routing.bcCol, select_apply]
  refine (if_neg ?_).trans ?_
  · intro h
    have h' : (a2 (ix1 n)).toInt < (0#32 : BitVec 32).toInt := IntOp.cmpi_slt.mp h
    rw [toInt_small _ (h2 n)] at h'
    have e0 : (0#32 : BitVec 32).toInt = 0 := by decide
    omega
  · show a2 (ix1 n) = BitVec.ofNat 32 (a2 (ix1 n)).toNat
    rw [BitVec.ofNat_toNat, BitVec.setWidth_eq]

/-- A group's weighted sum of a feature. -/
theorem rEmb_apply (h2 : ∀ n : Fin 100000, (a2 (ix1 n)).toNat < 512) (w : FVec Ideal S100000 .f32) (X : FVec Ideal S100000x176 .f32) (g : Fin 512) (k : Fin 176) :
    rEmb a2 w X (ix2 g k) = ∑ n : Fin 100000, if (a2 (ix1 n)).toNat = g.val then (w (ix1 n) * X (ix2 n k) : EReal) else 0 := by
  unfold rEmb
  show (broadcastInDim S512x176 ![] bcast_S_S512x176 (constant (F := Ideal) S_ .f32 0x00000000#32) (ix2 g k) : EReal)
    + ∑ j ∈ Finset.univ.filter (fun j => scatter_S512x176_S100000x1_S100000x176_1_0_0_1.resultIdx? j (broadcastInDim S100000x1 ![0] bcast_S100000_S100000x1_0 a2) = some (ix2 g k)),
      (mulf (broadcastInDim S100000x176 ![0, 1] bcast_S100000x1_S100000x176_0_1 (broadcastInDim S100000x1 ![0] bcast_S100000_S100000x1_0 w)) X j : EReal) = _
  have z : (broadcastInDim S512x176 ![] bcast_S_S512x176 (constant (F := Ideal) S_ .f32 0x00000000#32) (ix2 g k) : EReal) = 0 := Ideal.ofBits_zero_f32
  rw [z, zero_add, Finset.sum_filter, ValueIdx.sum_idx2]
  refine Finset.sum_congr rfl fun n _ => ?_
  have e : ∀ j : Fin 176, (scatter_S512x176_S100000x1_S100000x176_1_0_0_1.resultIdx? (ix2 n j) (broadcastInDim S100000x1 ![0] bcast_S100000_S100000x1_0 a2) = some (ix2 g k))
      ↔ ((a2 (ix1 n)).toNat = g.val ∧ j = k) := fun j => (lands2 _ n j g k).trans (by
    rw [Routing.bcCol, toInt_small _ (h2 n), Nat.cast_inj])
  have hv : ∀ j : Fin 176, mulf (F := Ideal) (broadcastInDim S100000x176 ![0, 1] bcast_S100000x1_S100000x176_0_1 (broadcastInDim S100000x1 ![0] bcast_S100000_S100000x1_0 w)) X (ix2 n j)
      = (w (ix1 n) * X (ix2 n j) : EReal) := fun j => by
    rw [mulf_apply]
    exact congrArg (fun y : EReal => y * X (ix2 n j)) (Routing.bcRows _ _ w n j)
  refine (Finset.sum_congr rfl fun j _ => (if_congr (e j) (hv j) rfl)).trans ?_
  by_cases hg : (a2 (ix1 n)).toNat = g.val
  · simp only [hg, true_and, if_true]
    rw [Finset.sum_ite_eq' Finset.univ k (fun j => (w (ix1 n) * X (ix2 n j) : EReal)), if_pos (Finset.mem_univ k)]
  · simp only [hg, false_and, if_false, Finset.sum_const_zero]

/-- A group's last hidden layer. -/
theorem rZ_apply (M : FVec Ideal S512x176 .f32) (g : Fin 512) (i : Fin 128) :
    rZ a7 a8 M (ix2 g i) = (∑ k : Fin 176, (M (ix2 g k) * a7 (ix2 k i) : EReal)) + a8 (ix1 i) := by
  unfold rZ
  rw [addf_apply]
  exact congrArg₂ (fun y z : EReal => y + z) (StackMember.dotGeneral_plain_apply (φ₁ := .f32) (φ₂ := .f32) none _ _ g i) (Routing.bcCols _ _ a8 g i)

/-- The result from the last hidden layer. -/
theorem rOut_apply (Z : FVec Ideal S512x128 .f32) (g : Fin 512) (j : Fin 128) :
    rOut a9 a10 Z (ix2 g j) = (∑ i : Fin 128, (leaky (Z (ix2 g i)) * a9 (ix2 i j) : EReal)) + a10 (ix1 j) := by
  unfold rOut
  rw [addf_apply]
  exact congrArg₂ (fun y z : EReal => y + z) (StackMember.dotGeneral_plain_apply (φ₁ := .f32) (φ₂ := .f32) none _ _ g j) (Routing.bcCols _ _ a10 g j)

/-- The reference's result at an entry is the network's. -/
theorem stages_apply (h2 : ∀ n : Fin 100000, (a2 (ix1 n)).toNat < 512) (g : Fin 512) (j : Fin 128) :
    rOut a9 a10 (rZ a7 a8 (rEmb a2 (rW a2 (rE a0 a1 a3 a4 a5 a6)) (rX a0 a1))) (ix2 g j)
      = (netOf a0 a1 a2 a3 a4 a5 a6 a7 a8 a9 a10).out g.val j := by
  rw [rOut_apply]
  have hW : ∀ n : Fin 100000, rW a2 (rE a0 a1 a3 a4 a5 a6) (ix1 n) = (netOf a0 a1 a2 a3 a4 a5 a6 a7 a8 a9 a10).share n := fun n => by
    rw [rW_apply a2 h2, rG_apply a2 h2]
    simp only [rE_apply a0 a1 a2 a3 a4 a5 a6 a7 a8 a9 a10]
    rfl
  have hZ : ∀ i : Fin 128, rZ a7 a8 (rEmb a2 (rW a2 (rE a0 a1 a3 a4 a5 a6)) (rX a0 a1)) (ix2 g i) = (netOf a0 a1 a2 a3 a4 a5 a6 a7 a8 a9 a10).z g.val i := fun i => by
    rw [rZ_apply]
    refine congrArg (fun y : EReal => y + a8 (ix1 i)) (Finset.sum_congr rfl fun k _ => congrArg (fun y : EReal => y * a7 (ix2 k i)) ?_)
    rw [rEmb_apply a2 h2]
    simp only [hW, rX_apply a0 a1 a2 a3 a4 a5 a6 a7 a8 a9 a10]
    rfl
  simp only [hZ]
  rfl

end Cert.ReferenceIdeal.Value

end
-- ==== Proof.Algebraic.lean ====
/-
  The claims under the second precondition: with the group ids in range and in order, the kernel over the extended reals and
  the reference end with equal results.
-/
module

public import proofs.«01_k».proof.Proof.Claims
public import proofs.«01_k».proof.Proof.Sorted
public import proofs.«01_k».proof.Proof.Final
public import proofs.«01_k».proof.Proof.Ref

@[expose] public section

set_option maxRecDepth 16384

noncomputable section

namespace Cert.Proof

open Idealize.ShloMosaic hiding ix1 ix2 ix3
open Idealize.ShloMosaic.TcCoe Idealize.ShloMosaic.ValueIdx Idealize.SL.Sem

/-- What the second precondition's program needs of the shapes it names. -/
instance sorted_facts : Cert.Pre_ids_sorted.Facts where
  bcast_S_S100000 := by decide
  reducesTo_S100000_S_d0 := by decide
  h_S_ := by decide
  slices_S100000_S99999_0 := by decide
  slices_S100000_S99999_1 := by decide
  reducesTo_S99999_S_d0 := by decide

/-- Ids in range and in order, from the second precondition. -/
theorem good_of (m : (ℓ : Loc Cert.KernelIdeal.nD Cert.KernelIdeal.τ Cert.KernelIdeal.sig) → Buf (Elt Ideal) ℓ)
    (h : Cert.Pre_KernelIdeal_ids_sorted m) (c : Dev Cert.KernelIdeal.nD) : Cert.KernelIdeal.Gen.Good m c :=
  have hs := sorted_of _ _ _ _ _ _ _ _ _ _ _ (h c)
  ⟨hs.1, hs.2⟩

/-- The kernel's launch conditions, from the second precondition. -/
theorem side_sorted (m : (ℓ : Loc Cert.KernelIdeal.nD Cert.KernelIdeal.τ Cert.KernelIdeal.sig) → Buf (Elt Ideal) ℓ)
    (h : Cert.Pre_KernelIdeal_ids_sorted m) : Cert.KernelIdeal.Gen.Side m :=
  Cert.KernelIdeal.Gen.side_of m fun c n => (good_of m h c).lt n

/-- The kernel over the extended reals, under the second precondition, stops with its arguments as they were and every counter at zero. -/
theorem frame_k_ideal_sorted : Cert.quiescent_KernelIdeal_pre_ids_sorted := fun m ρ h =>
  have hs : Cert.KernelIdeal.Gen.Side m := side_sorted m h
  θ_run_and (Cert.KernelIdeal.Gen.frame_of m ρ (Cert.KernelIdeal.Gen.dats m) (Cert.KernelIdeal.Gen.A_eq m)
    (Cert.KernelIdeal.Gen.run_main m ρ hs)) (Cert.KernelIdeal.Gen.counters m ρ hs)

/-- The reference, under the second precondition, stops with its arguments as they were. -/
theorem frame_r_sorted : Cert.quiescent_ReferenceIdeal_pre_ids_sorted := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result is the kernel's, entry by entry: both are the network of the common arguments. -/
theorem results_agree (m : (ℓ : Loc Cert.KernelIdeal.nD Cert.KernelIdeal.τ Cert.KernelIdeal.sig) → Buf (Elt Ideal) ℓ)
    (c : Dev Cert.KernelIdeal.nD) (G : Cert.KernelIdeal.Gen.Good m c) :
    Cert.ReferenceIdeal.Value.rOut (m ((c.tc : Thread Cert.KernelIdeal.nD Cert.KernelIdeal.τ).loc Cert.KernelIdeal.main_arg9)) (m ((c.tc : Thread Cert.KernelIdeal.nD Cert.KernelIdeal.τ).loc Cert.KernelIdeal.main_arg10))
        (Cert.ReferenceIdeal.Value.rZ (m ((c.tc : Thread Cert.KernelIdeal.nD Cert.KernelIdeal.τ).loc Cert.KernelIdeal.main_arg7)) (m ((c.tc : Thread Cert.KernelIdeal.nD Cert.KernelIdeal.τ).loc Cert.KernelIdeal.main_arg8))
          (Cert.ReferenceIdeal.Value.rEmb (m ((c.tc : Thread Cert.KernelIdeal.nD Cert.KernelIdeal.τ).loc Cert.KernelIdeal.main_arg2))
            (Cert.ReferenceIdeal.Value.rW (m ((c.tc : Thread Cert.KernelIdeal.nD Cert.KernelIdeal.τ).loc Cert.KernelIdeal.main_arg2))
              (Cert.ReferenceIdeal.Value.rE (m ((c.tc : Thread Cert.KernelIdeal.nD Cert.KernelIdeal.τ).loc Cert.KernelIdeal.main_arg0)) (m ((c.tc : Thread Cert.KernelIdeal.nD Cert.KernelIdeal.τ).loc Cert.KernelIdeal.main_arg1))
                (m ((c.tc : Thread Cert.KernelIdeal.nD Cert.KernelIdeal.τ).loc Cert.KernelIdeal.main_arg3)) (m ((c.tc : Thread Cert.KernelIdeal.nD Cert.KernelIdeal.τ).loc Cert.KernelIdeal.main_arg4))
                (m ((c.tc : Thread Cert.KernelIdeal.nD Cert.KernelIdeal.τ).loc Cert.KernelIdeal.main_arg5)) (m ((c.tc : Thread Cert.KernelIdeal.nD Cert.KernelIdeal.τ).loc Cert.KernelIdeal.main_arg6))))
            (Cert.ReferenceIdeal.Value.rX (m ((c.tc : Thread Cert.KernelIdeal.nD Cert.KernelIdeal.τ).loc Cert.KernelIdeal.main_arg0)) (m ((c.tc : Thread Cert.KernelIdeal.nD Cert.KernelIdeal.τ).loc Cert.KernelIdeal.main_arg1)))))
      = Cert.KernelIdeal.Gen.result m c Cert.KernelIdeal.Gen.t0_9 := by
  funext i
  have hi : i = ix2 (i 0 : Fin 512) (i 1 : Fin 128) := funext fun a => by
    match a with
    | ⟨0, _⟩ => rfl
    | ⟨1, _⟩ => rfl
  rw [hi]
  exact (Cert.ReferenceIdeal.Value.stages_apply _ _ _ _ _ _ _ _ _ _ _ G.lt (i 0) (i 1)).trans
    (Cert.KernelIdeal.Gen.result_apply m c G Cert.KernelIdeal.Gen.t0_9 rfl (i 0) (i 1)).symm

/-- From memories agreeing on the arguments, ids in range and in order, kernel and reference end with equal results. -/
theorem algebraic : Cert.algebraic_KernelIdeal_ReferenceIdeal_pre_ids_sorted := fun m g m' g' h hagree => by
  have hs : Cert.KernelIdeal.Gen.Side m := side_sorted m h
  refine ⟨fun c => Cert.KernelIdeal.Gen.result m c Cert.KernelIdeal.Gen.t0_9, ?_, ?_⟩
  · exact (θ_run Cert.KernelIdeal.defs _ _).mono (fun r hr c => ⟨hr.1 c, hr.2 c⟩)
      (θ_run_and (Cert.KernelIdeal.Gen.run_value m g hs)
        (Cert.KernelIdeal.Gen.frame_of m g (Cert.KernelIdeal.Gen.dats m) (Cert.KernelIdeal.Gen.A_eq m) (Cert.KernelIdeal.Gen.run_main m g hs)))
  · refine (θ_run Cert.ReferenceIdeal.defs _ _).mono (fun r hr c => ⟨(hr c).1.trans ?_, (hr c).2⟩) (Cert.ReferenceIdeal.Value.run (F := Ideal) m' g')
    obtain ⟨h0, h1, h2, h3, h4, h5, h6, h7, h8, h9, h10⟩ := hagree c
    rw [Cert.ReferenceIdeal.Value.res_stages, h0, h1, h2, h3, h4, h5, h6, h7, h8, h9, h10]
    exact results_agree m c (good_of m h c)

end Cert.Proof

end
-- ==== Proof.lean ====
/- The claims of this directory, put together from the modules under proof/Proof/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Claims
public import proofs.«01_k».proof.Proof.Algebraic

@[expose] public section

noncomputable section

namespace Cert.Proof

/-- Every claim of the statement. -/
theorem claim : Cert.Claim :=
  ⟨Cert.Kernel.Gen.facts, Cert.KernelIdeal.Gen.facts, Cert.ReferenceIdeal.Gen.facts, range_facts, sorted_facts,
    frame_k, frame_k_ideal, frame_k_ideal_sorted, frame_r, frame_r_sorted, trivial, algebraic⟩

end Cert.Proof

end
